-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 2] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![1, 1024, 8192]⟩ ⟨3, ![1, 2048, 8192]⟩ (Layout.meshBlock [2, 2, 2] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S1024x8192 : Shape := ⟨2, ![1024, 8192]⟩
abbrev S4096x256 : Shape := ⟨2, ![4096, 256]⟩
abbrev S1024x256 : Shape := ⟨2, ![1024, 256]⟩
abbrev S2x1024x256 : Shape := ⟨3, ![2, 1024, 256]⟩
abbrev S4x1024x256 : Shape := ⟨3, ![4, 1024, 256]⟩
abbrev S2 : Shape := ⟨1, ![2]⟩
abbrev S4 : Shape := ⟨1, ![4]⟩
abbrev S_ : Shape := ⟨0, ![]⟩
abbrev S4096x128 : Shape := ⟨2, ![4096, 128]⟩
abbrev S1 : Shape := ⟨1, ![1]⟩
abbrev S1x1024x256 : Shape := ⟨3, ![1, 1024, 256]⟩
abbrev S512x4096 : Shape := ⟨2, ![512, 4096]⟩
abbrev S512x256 : Shape := ⟨2, ![512, 256]⟩
abbrev S1x512x256 : Shape := ⟨3, ![1, 512, 256]⟩
abbrev S1x1024x8192 : Shape := ⟨3, ![1, 1024, 8192]⟩

abbrev nBuf : Space → Nat
  | .hbm => 5
  | .vmem => 9
  | .smem => 0
  | _ => 0

abbrev bufTy : (tb : Table) → Fin (tcTables nBuf tb) → BufTy
  | .hbm, ⟨0, _⟩ => ⟨S1x2048x32x128, .bf16⟩
  | .hbm, ⟨1, _⟩ => ⟨S4096x8192, .bf16⟩
  | .hbm, ⟨2, _⟩ => ⟨S2048x4096, .bf16⟩
  | .hbm, ⟨3, _⟩ => ⟨S1024x8192, .f32⟩
  | .hbm, ⟨4, _⟩ => ⟨S1x1024x8192, .f32⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S2x1024x256, .bf16⟩
  | .local _ .vmem, ⟨6, _⟩ => ⟨S4x1024x256, .bf16⟩
  | .local _ .vmem, ⟨7, _⟩ => ⟨S2x1024x256, .bf16⟩
  | .local _ .vmem, ⟨8, _⟩ => ⟨S4096x256, .bf16⟩
  | _, _ => ⟨S1x2048x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 8
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k0_dev1 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v25 : BitVec 32 := Scalar.muli v2 c4_i32_13
  let v26 : BitVec 32 := Scalar.addi c0_i32_14 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v27 : BitVec 32 := Scalar.muli v5 c2_i32_15
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_16 : BitVec 32 := 1#32
  let v29 : BitVec 32 := Scalar.muli v9 c1_i32_16
  let v30 : BitVec 32 := Scalar.addi v28 v29
  v30.toNat
def k0_cond2 (i : grid0.Coords) : BitVec 1 :=
  let arg0 : BitVec 32 := BitVec.ofNat 32 (i 0).val
  let c32_i32 : BitVec 32 := 32#32
  let v15 : BitVec 1 := Scalar.cmpi .slt arg0 c32_i32
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c2_i32_18 : BitVec 32 := 2#32
  let v34 : BitVec 1 := Scalar.cmpi .sge arg0 c2_i32_18
  let v35 : BitVec 32 := Scalar.extui v34
  let c0_i32_19 : BitVec 32 := 0#32
  let v36 : BitVec 1 := Scalar.cmpi .ne v35 c0_i32_19
  v36

def k0_off1 (i : grid0.Coords) : Fin 1 → Nat :=
  let arg0 : BitVec 32 := BitVec.ofNat 32 (i 0).val
  let c2_i32_4 : BitVec 32 := 2#32
  let v10 : BitVec 32 := Scalar.remsi arg0 c2_i32_4
  ![v10.toNat]
def k0_off2 (i : grid0.Coords) : Fin 3 → Nat :=
  let arg0 : BitVec 32 := BitVec.ofNat 32 (i 0).val
  let c2_i32_4 : BitVec 32 := 2#32
  let v10 : BitVec 32 := Scalar.remsi arg0 c2_i32_4
  let c0_i32_57 : BitVec 32 := 0#32
  let c0_i32_58 : BitVec 32 := 0#32
  ![v10.toNat, 0, 0]
def k0_off3 (i : grid0.Coords) : Fin 3 → Nat :=
  let arg0 : BitVec 32 := BitVec.ofNat 32 (i 0).val
  let c4_i32_5 : BitVec 32 := 4#32
  let v11 : BitVec 32 := Scalar.remsi arg0 c4_i32_5
  let c0_i32_59 : BitVec 32 := 0#32
  let c0_i32_60 : BitVec 32 := 0#32
  ![v11.toNat, 0, 0]
def k0_off4 (d0 : Dev nD) (c0_i32_20 : BitVec 32) : Fin 2 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v37 : BitVec 32 := Scalar.muli v9 c1024_i32
  let v38 : BitVec 32 := Scalar.addi v37 c0_i32_20
  let v39 : Index := Scalar.indexCast v38
  let c0_21 : Index := 0#32
  ![v39.toNat, 0]
def k0_off5 (i : grid0.Coords) : Fin 3 → Nat :=
  let arg0 : BitVec 32 := BitVec.ofNat 32 (i 0).val
  let c2_i32_4 : BitVec 32 := 2#32
  let v10 : BitVec 32 := Scalar.remsi arg0 c2_i32_4
  let v45 : Index := Scalar.indexCast v10
  let c0_24 : Index := 0#32
  let c0_25 : Index := 0#32
  ![v45.toNat, 0, 0]
def k0_off6 (i : grid0.Coords) : Fin 3 → Nat :=
  let arg0 : BitVec 32 := BitVec.ofNat 32 (i 0).val
  let c2_i32_4 : BitVec 32 := 2#32
  let v10 : BitVec 32 := Scalar.remsi arg0 c2_i32_4
  let v57 : Index := Scalar.indexCast v10
  let c512 : Index := 512#32
  let c0_31 : Index := 0#32
  ![v57.toNat, 512, 0]
def k0_off7 (i : grid0.Coords) : Fin 1 → Nat :=
  let arg0 : BitVec 32 := BitVec.ofNat 32 (i 0).val
  let c2_i32_4 : BitVec 32 := 2#32
  let v10 : BitVec 32 := Scalar.remsi arg0 c2_i32_4
  ![v10.toNat]
def k0_off8 (i : grid0.Coords) : Fin 1 → Nat :=
  let arg0 : BitVec 32 := BitVec.ofNat 32 (i 0).val
  let c4_i32_5 : BitVec 32 := 4#32
  let v11 : BitVec 32 := Scalar.remsi arg0 c4_i32_5
  ![v11.toNat]
def k0_off9 (i : grid0.Coords) : Fin 3 → Nat :=
  let arg0 : BitVec 32 := BitVec.ofNat 32 (i 0).val
  let c4_i32_5 : BitVec 32 := 4#32
  let v11 : BitVec 32 := Scalar.remsi arg0 c4_i32_5
  let c0_i32_36 : BitVec 32 := 0#32
  let c0_i32_37 : BitVec 32 := 0#32
  ![v11.toNat, 0, 0]
def k0_off10 (i : grid0.Coords) : Fin 3 → Nat :=
  let arg0 : BitVec 32 := BitVec.ofNat 32 (i 0).val
  let c2_i32_4 : BitVec 32 := 2#32
  let v10 : BitVec 32 := Scalar.remsi arg0 c2_i32_4
  let c0_i32_38 : BitVec 32 := 0#32
  let c0_i32_39 : BitVec 32 := 0#32
  ![v10.toNat, 0, 0]
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v61 : BitVec 32 := Scalar.muli v2 c4_i32_32
  let v62 : BitVec 32 := Scalar.addi c0_i32_33 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v63 : BitVec 32 := Scalar.muli v5 c2_i32_34
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_35 : BitVec 32 := 1#32
  let v65 : BitVec 32 := Scalar.muli v9 c1_i32_35
  let v66 : BitVec 32 := Scalar.addi v64 v65
  v66.toNat
def k0_off11 (d0 : Dev nD) (c0_i32_41 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_40 : BitVec 32 := 1024#32
  let v75 : BitVec 32 := Scalar.muli v8 c1024_i32_40
  let v76 : BitVec 32 := Scalar.addi v75 c0_i32_41
  let v77 : Index := Scalar.indexCast v76
  let c0_42 : Index := 0#32
  ![v77.toNat, 0]
def k0_cond4 (i : grid0.Coords) : BitVec 1 :=
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .ne v19 c0_i32_9
  v20

def k0_off12 (i : grid0.Coords) : Fin 1 → Nat :=
  let arg0 : BitVec 32 := BitVec.ofNat 32 (i 0).val
  let c1_i32_14 : BitVec 32 := 1#32
  let v26 : BitVec 32 := Scalar.subi arg0 c1_i32_14
  let c4_i32_15 : BitVec 32 := 4#32
  let v27 : BitVec 32 := Scalar.remsi v26 c4_i32_15
  ![v27.toNat]
def k0_off13 (i : grid0.Coords) : Fin 3 → Nat :=
  let arg0 : BitVec 32 := BitVec.ofNat 32 (i 0).val
  let c1_i32_14 : BitVec 32 := 1#32
  let v26 : BitVec 32 := Scalar.subi arg0 c1_i32_14
  let c4_i32_15 : BitVec 32 := 4#32
  let v27 : BitVec 32 := Scalar.remsi v26 c4_i32_15
  let c0_i32_20 : BitVec 32 := 0#32
  let c0_i32_21 : BitVec 32 := 0#32
  ![v27.toNat, 0, 0]
def k0_off14 (i : grid0.Coords) : Fin 3 → Nat :=
  let arg0 : BitVec 32 := BitVec.ofNat 32 (i 0).val
  let c1_i32_12 : BitVec 32 := 1#32
  let v24 : BitVec 32 := Scalar.subi arg0 c1_i32_12
  let c2_i32_13 : BitVec 32 := 2#32
  let v25 : BitVec 32 := Scalar.remsi v24 c2_i32_13
  let c0_i32_22 : BitVec 32 := 0#32
  let c0_i32_23 : BitVec 32 := 0#32
  ![v25.toNat, 0, 0]
def k0_off15 (i : grid0.Coords) : Fin 3 → Nat :=
  let arg0 : BitVec 32 := BitVec.ofNat 32 (i 0).val
  let c1_i32_12 : BitVec 32 := 1#32
  let v24 : BitVec 32 := Scalar.subi arg0 c1_i32_12
  let c2_i32_13 : BitVec 32 := 2#32
  let v25 : BitVec 32 := Scalar.remsi v24 c2_i32_13
  let v40 : Index := Scalar.indexCast v25
  let c0 : Index := 0#32
  let c0_24 : Index := 0#32
  ![v40.toNat, 0, 0]
def k0_off16 (i : grid0.Coords) : Fin 3 → Nat :=
  let arg0 : BitVec 32 := BitVec.ofNat 32 (i 0).val
  let c1_i32_14 : BitVec 32 := 1#32
  let v26 : BitVec 32 := Scalar.subi arg0 c1_i32_14
  let c4_i32_15 : BitVec 32 := 4#32
  let v27 : BitVec 32 := Scalar.remsi v26 c4_i32_15
  let v44 : Index := Scalar.indexCast v27
  let c0_25 : Index := 0#32
  let c0_26 : Index := 0#32
  ![v44.toNat, 0, 0]
def k0_off17 (i : grid0.Coords) : Fin 3 → Nat :=
  let arg0 : BitVec 32 := BitVec.ofNat 32 (i 0).val
  let c1_i32_12 : BitVec 32 := 1#32
  let v24 : BitVec 32 := Scalar.subi arg0 c1_i32_12
  let c2_i32_13 : BitVec 32 := 2#32
  let v25 : BitVec 32 := Scalar.remsi v24 c2_i32_13
  let v50 : Index := Scalar.indexCast v25
  let c512 : Index := 512#32
  let c0_29 : Index := 0#32
  ![v50.toNat, 512, 0]
def k0_off18 (i : grid0.Coords) : Fin 3 → Nat :=
  let arg0 : BitVec 32 := BitVec.ofNat 32 (i 0).val
  let c1_i32_14 : BitVec 32 := 1#32
  let v26 : BitVec 32 := Scalar.subi arg0 c1_i32_14
  let c4_i32_15 : BitVec 32 := 4#32
  let v27 : BitVec 32 := Scalar.remsi v26 c4_i32_15
  let v54 : Index := Scalar.indexCast v27
  let c512_30 : Index := 512#32
  let c0_31 : Index := 0#32
  ![v54.toNat, 512, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x64x128, .bf16⟩
  | .hbm, ⟨1, _⟩ => ⟨S8192x8192, .bf16⟩
  | .hbm, ⟨2, _⟩ => ⟨S1x2048x64x128, .f32⟩
  | .hbm, ⟨3, _⟩ => ⟨S1x2048x8192, .f32⟩
  | .hbm, ⟨4, _⟩ => ⟨S8192x8192, .f32⟩
  | .hbm, ⟨5, _⟩ => ⟨S1x2048x8192, .f32⟩
  | _, _ => ⟨S1x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Slots.lean ====
/-
  Buffers by values: what a load and a store do to a buffer held through `owns`, for a memref itself and for one
  slice of it held alone (a slot of a ring of slots), and what a transfer from one slot to another hands over.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Tactic
public import Idealize.ShloMosaic.Lib.VecWindow
public import Idealize.ShloMosaic.Lib.Memref
public import Idealize.ShloMosaic.Lib.Pipeline.Value

@[expose] public section

noncomputable section

namespace Cert.KernelIdeal.Slots

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Pure facts on windows -/

section Pure

variable {α : Type} {s : Shape}

/-- The window of the whole shape is the array. -/
theorem window_full (x : s.Idx → α) (off : Fin s.rank → ℕ) (inb : ∀ a, off a + s.size a ≤ s.size a) :
    VecWindow.window x off s.size inb = x :=
  funext fun y => congrArg x (Rect.emb_unit_full inb y)

/-- Two puts that cover the shape leave nothing of what was there. -/
theorem put_put_cover (x x' : s.Idx → α) (o₁ o₂ z₁ z₂ : Fin s.rank → ℕ) (a : ((a : Fin s.rank) → Fin (z₁ a)) → α)
    (b : ((a : Fin s.rank) → Fin (z₂ a)) → α)
    (h : ∀ y : s.Idx, (∀ d, o₁ d ≤ (y d).val ∧ (y d).val < o₁ d + z₁ d) ∨ ∀ d, o₂ d ≤ (y d).val ∧ (y d).val < o₂ d + z₂ d) :
    VecWindow.put (VecWindow.put x o₁ z₁ a) o₂ z₂ b = VecWindow.put (VecWindow.put x' o₁ z₁ a) o₂ z₂ b := by
  funext y
  unfold VecWindow.put
  by_cases h₂ : ∀ d, o₂ d ≤ (y d).val ∧ (y d).val < o₂ d + z₂ d
  · rw [dif_pos h₂, dif_pos h₂]
  · rw [dif_neg h₂, dif_neg h₂]
    rcases h y with h₁ | h₁
    · rw [dif_pos h₁, dif_pos h₁]
    · exact absurd h₁ h₂

/-- Putting back a window of an array where it lies changes nothing. -/
theorem put_window (x : s.Idx → α) (off size : Fin s.rank → ℕ) (inb : ∀ a, off a + size a ≤ s.size a) :
    VecWindow.put x off size (VecWindow.window x off size inb) = x := by
  funext y
  unfold VecWindow.put
  by_cases h : ∀ d, off d ≤ (y d).val ∧ (y d).val < off d + size d
  · rw [dif_pos h]
    exact congrArg x (funext fun a => Fin.ext (by
      show off a + 1 * ((y a).val - off a) = (y a).val
      have := h a
      omega))
  · rw [dif_neg h]

end Pure

/-! ## Loads and stores through a memref held whole -/

section Rules

variable {nD : Nat} {τ : Topo} {sig : RefSig} {Ix : Type} [DecidableEq Ix] {Val : EltTy → Type} {Name : Type} [DecidableEq Name]
  {U : Type} [URA U] {Lvl : Type} [Preorder Lvl] {Λ : Labels} {defs : Defs nD τ sig Val Λ} (𝒱 : Variants) (c : Thread nD τ) (bd : Option 𝒱.V)
  (E : Set Name) {α : Type} {Q : α → sProp (MT nD τ sig Ix Val Name U Lvl)}

local notation "𝕄" => MT nD τ sig Ix Val Name U Lvl

variable {cs : CoreSpace} {s : Shape} {e : EltTy} {m : Memref sig c.2.kind cs s e} {off size : Fin s.rank → ℕ}
  {inb : ∀ a, off a + size a ≤ s.size a}

/-- A load of a window of a memref owned at `X`. -/
theorem load_owns {q : PosShare TreeShare} {X : s.Idx → Val e} {hl : m.view.LoadsAt (Rect.unit off size inb).toLoadRect}
    {k : ((Rect.unit off size inb).toLoadRect.shape.Idx → Val e) → Prog (TpuEff nD τ sig Val Λ c.2) α} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (m := m) (S := m.view.set) (m.view.setOn_subset_set _)) $$ H
  iintro H
  iapply Hk
  iexists f
  isplitr; · ipureintro; rfl
  iexact H

/-- A store over a window of a memref owned at `X`. -/
theorem store_owns {X : s.Idx → Val e} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store_writes₀ 𝒱 c bd E (m := m) (S := m.view.set) (View.set_slice_subset _ _)) $$ H
  iintro H
  iapply Hk
  iexists (m.view.writes Val f [⟨Rect.unit off size inb, w⟩])
  isplitr
  · ipureintro
    rw [View.read_writes_cons_put m.view f inb w [] rfl]
    rfl
  iexact H

/-! ## Loads and stores inside one slice held alone -/

variable {off₀ size₀ : Fin s.rank → ℕ} {inb₀ : ∀ a, off₀ a + size₀ a ≤ s.size a}

/-- A load, through the memref, of a window that lies inside a slice owned at `X`: with `δ` the window's offsets within
    the slice. -/
theorem load_slot {q : PosShare TreeShare} (δ : Fin s.rank → ℕ) (hδ : ∀ a, off a = off₀ a + δ a) (hin : ∀ a, δ a + size a ≤ size₀ a)
    {X : (Rect.unit off₀ size₀ inb₀).shape.Idx → Val e} {hl : m.view.LoadsAt (Rect.unit off size inb).toLoadRect}
    {k : ((Rect.unit off size inb).toLoadRect.shape.Idx → Val e) → Prog (TpuEff nD τ sig Val Λ c.2) α} :
    (owns c (m.slice (Rect.unit off₀ size₀ inb₀) (fun _ => rfl)) q X : sProp 𝕄)
      ⊢ iprop((owns c (m.slice (Rect.unit off₀ size₀ inb₀) (fun _ => rfl)) q X
            -∗ wp frame (wpE defs 𝒱 c bd) E (k (VecWindow.window (s := (Rect.unit off₀ size₀ inb₀).shape) X δ size hin)) Q)
        -∗ wp frame (wpE defs 𝒱 c bd) E (.op (.load m (Rect.unit off size inb).toLoadRect hl) k) Q) := by
  have hemb : ∀ y : (Rect.unit off size inb).shape.Idx,
      (Rect.unit off size inb).emb y = (Rect.unit off₀ size₀ inb₀).emb ((Rect.unit (s := (Rect.unit off₀ size₀ inb₀).shape) δ size hin).emb y) :=
    fun y => funext fun a => Fin.ext (by
      show off a + 1 * (y a).val = off₀ a + 1 * (δ a + 1 * (y a).val)
      have := hδ a
      omega)
  have hset : (m.access (Rect.unit off size inb)).set ⊆ (m.slice (Rect.unit off₀ size₀ inb₀) (fun _ => rfl)).view.set := by
    intro x hx
    simp only [View.set, Finset.mem_map, Finset.mem_univ, true_and] at hx ⊢
    obtain ⟨y, rfl⟩ := hx
    exact ⟨(Rect.unit (s := (Rect.unit off₀ size₀ inb₀).shape) δ size hin).emb y, congrArg m.view.emb (hemb y).symm⟩
  unfold owns
  iintro ⟨%f, %hf, H⟩ Hk
  subst hf
  iapply (wp_load_rect 𝒱 c bd E (m := m) (r := Rect.unit off size inb) hset) $$ H
  iintro H
  have hr : (m.access (Rect.unit off size inb)).read Val f
      = VecWindow.window (s := (Rect.unit off₀ size₀ inb₀).shape)
          ((m.slice (Rect.unit off₀ size₀ inb₀) (fun _ => rfl)).view.read Val f) δ size hin :=
    funext fun y => congrArg (m.view.read Val f) (hemb y)
  rw [hr]
  iapply Hk
  iexists f
  isplitr; · ipureintro; rfl
  iexact H

/-- A store, through the memref, over a window that lies inside a slice owned at `X`. -/
theorem store_slot (δ : Fin s.rank → ℕ) (hδ : ∀ a, off a = off₀ a + δ a) (hin : ∀ a, δ a + size a ≤ size₀ a)
    {X : (Rect.unit off₀ size₀ inb₀).shape.Idx → Val e} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} :
    (owns c (m.slice (Rect.unit off₀ size₀ inb₀) (fun _ => rfl)) fullShare X : sProp 𝕄)
      ⊢ iprop((owns c (m.slice (Rect.unit off₀ size₀ inb₀) (fun _ => rfl)) fullShare
              (VecWindow.put (s := (Rect.unit off₀ size₀ inb₀).shape) X δ size w)
            -∗ wp frame (wpE defs 𝒱 c bd) E (k ⟨⟩) Q)
        -∗ wp frame (wpE defs 𝒱 c bd) E (.op (.store m (Rect.unit off size inb) w Finset.univ hx hm) k) Q) := by
  have hemb : ∀ y : (Rect.unit off size inb).shape.Idx,
      (Rect.unit off size inb).emb y = (Rect.unit off₀ size₀ inb₀).emb ((Rect.unit (s := (Rect.unit off₀ size₀ inb₀).shape) δ size hin).emb y) :=
    fun y => funext fun a => Fin.ext (by
      show off a + 1 * (y a).val = off₀ a + 1 * (δ a + 1 * (y a).val)
      have := hδ a
      omega)
  have hset : (m.access (Rect.unit off size inb)).set ⊆ (m.slice (Rect.unit off₀ size₀ inb₀) (fun _ => rfl)).view.set := by
    intro x hx
    simp only [View.set, Finset.mem_map, Finset.mem_univ, true_and] at hx ⊢
    obtain ⟨y, rfl⟩ := hx
    exact ⟨(Rect.unit (s := (Rect.unit off₀ size₀ inb₀).shape) δ size hin).emb y, congrArg m.view.emb (hemb y).symm⟩
  unfold owns
  iintro ⟨%f, %hf, H⟩ Hk
  subst hf
  iapply (wp_store_writes₀ 𝒱 c bd E (m := m) hset) $$ H
  iintro H
  iapply Hk
  iexists (m.view.writes Val f [⟨Rect.unit off size inb, w⟩])
  isplitr
  · ipureintro
    funext z
    show m.view.read Val (m.view.writes Val f [⟨Rect.unit off size inb, w⟩]) ((Rect.unit off₀ size₀ inb₀).emb z) = _
    have hz : ∀ a, ((Rect.unit off₀ size₀ inb₀).emb z a).val = off₀ a + 1 * (z a).val := fun _ => rfl
    rw [View.read_writes_cons_unit m.view f inb w [] _ rfl]
    unfold VecWindow.put
    by_cases h : ∀ a, δ a ≤ (z a).val ∧ (z a).val < δ a + size a
    · have h' : ∀ a, off a ≤ ((Rect.unit off₀ size₀ inb₀).emb z a).val ∧ ((Rect.unit off₀ size₀ inb₀).emb z a).val < off a + size a :=
        fun a => by have := h a; have := hδ a; have := hz a; omega
      rw [dif_pos h, dif_pos h']
      exact congrArg w (funext fun a => Fin.ext (by
        show ((Rect.unit off₀ size₀ inb₀).emb z a).val - off a = (z a).val - δ a
        have := h a; have := hδ a; have := hz a; omega))
    · have h' : ¬ ∀ a, off a ≤ ((Rect.unit off₀ size₀ inb₀).emb z a).val ∧ ((Rect.unit off₀ size₀ inb₀).emb z a).val < off a + size a :=
        fun hh => h fun a => by have := hh a; have := hδ a; have := hz a; omega
      rw [dif_neg h, dif_neg h']
      rfl
  iexact H

/-! ## A slot through its squeezed memref -/

/-- The contents of a slot read through its squeezed memref are the landing's payload, re-indexed to the slice. -/
theorem owns_of_landed {κ : Kind} {sp sp' : Space} {t u : Shape} {e : EltTy}
    (c' : Thread nD τ) (src : Memref sig κ sp t e) (dst : Memref sig c'.2.kind sp' t e) (hq : t.Squeezes u)
    (fd : Buf Val (dst.view.loc c')) (fs : src.view.ty.Contents Val) :
    ((dst.squeeze u hq).view.loc c' ↦[(dst.squeeze u hq).view.set]{fullShare}
        (dst.squeeze u hq).view.write Val fd ((src.squeeze u hq).view.read Val fs) Finset.univ : sProp 𝕄)
      ⊢ owns c' dst fullShare (src.view.read Val fs) := by
  have h : dst.view.read Val ((dst.squeeze u hq).view.write Val fd ((src.squeeze u hq).view.read Val fs) Finset.univ)
      = src.view.read Val fs := by
    have hw : (dst.squeeze u hq).view.read Val ((dst.squeeze u hq).view.write Val fd ((src.squeeze u hq).view.read Val fs) Finset.univ)
        = (src.squeeze u hq).view.read Val fs := View.read_write_univ _ _
    funext z
    obtain ⟨y, rfl⟩ := (Shape.reshapeEquiv hq.numel_eq).surjective z
    exact congrFun hw y
  rw [← h]
  iintro H
  iapply (owns_intro c' dst fullShare _)
  rw [Memref.set_view_squeeze]
  iexact H

end Rules

end Cert.KernelIdeal.Slots

end
-- ==== Proof.Values.lean ====
/-
  What the kernel computes, as plain functions of the blocks each device holds: the tile products, a chunk that goes to
  the partner, the chunk a device keeps, and the chunk of the result.
-/
module

public import proofs.«01_k».proof.Proof.Slots

@[expose] public section

noncomputable section

namespace Cert.KernelIdeal.Own

open Idealize.ShloMosaic Idealize.ShloMosaic.TcCoe
open Idealize.SL.Sem
open Cert.KernelIdeal.Gen Cert.KernelIdeal.Slots

variable {F : FTy → Type} [FloatOps F]

/-! ## The partner along the last axis of the mesh -/

/-- The device that differs from `c` in the last axis of the mesh alone. -/
def pr (c : Dev nD) : Dev nD := ⟨k0_dev1 c, by revert c; decide⟩
theorem pr_pr (c : Dev nD) : pr (pr c) = c := by revert c; decide
theorem dev1_pr (c : Dev nD) (h) : (⟨k0_dev1 c, h⟩ : Dev nD) = pr c := rfl
theorem dev2_pr (c : Dev nD) (h) : (⟨k0_dev2 c, h⟩ : Dev nD) = pr c :=
  Fin.ext ((k0_dev2_eq c).trans (k0_dev1_eq c).symm)
/-- The place of `c` in the last axis: which half of the rows is its own. -/
def half (c : Dev nD) : Fin 2 := ⟨c.val % 2, Nat.mod_lt _ (by decide)⟩
theorem half_pr (c : Dev nD) : (half (pr c)).val = 1 - c.val % 2 := by revert c; decide

/-! ## Tiles -/

theorem inbRows (h b : Fin 2) : ∀ a, (![1024 * h.val + 512 * b.val, 0] : Fin 2 → ℕ) a + S512x4096.size a ≤ S2048x4096.size a := by
  revert h b; decide
/-- Row tile `b` of half `h`. -/
def rowTile (O : Vec F S2048x4096 .bf16) (h b : Fin 2) : Vec F S512x4096 .bf16 :=
  VecWindow.window O ![1024 * h.val + 512 * b.val, 0] S512x4096.size (inbRows h b)

theorem pos₃ : ∀ d, 0 < S1x512x256.size d := by decide
theorem pos₂ : ∀ d, 0 < S512x256.size d := by decide
/-- The first index of a tile. -/
def first₃ : S1x512x256.Idx := fun d => ⟨0, pos₃ d⟩
def first₂ : S512x256.Idx := fun d => ⟨0, pos₂ d⟩

/-- Two row tiles of one chunk, one over the other. -/
def two {α : Type} (a b : S1x512x256.Idx → α) : S1x1024x256.Idx → α :=
  VecWindow.put (VecWindow.put (fun _ => a first₃) ![0, 0, 0] S1x512x256.size a) ![0, 512, 0] S1x512x256.size b

theorem inbTile (b : Fin 2) : ∀ a, (![0, 512 * b.val, 0] : Fin 3 → ℕ) a + S1x512x256.size a ≤ S1x1024x256.size a := by
  revert b; decide
/-- Row tile `b` of a chunk. -/
def tile {α : Type} (X : S1x1024x256.Idx → α) (b : Fin 2) : S1x512x256.Idx → α :=
  VecWindow.window X ![0, 512 * b.val, 0] S1x512x256.size (inbTile b)

theorem two_of_puts {α : Type} (X : S1x1024x256.Idx → α) (a b : S1x512x256.Idx → α) :
    VecWindow.put (VecWindow.put X ![0, 0, 0] S1x512x256.size a) ![0, 512, 0] S1x512x256.size b = two a b :=
  put_put_cover _ _ _ _ _ _ _ _ fun y => by
    have h0 : (y 0).val < 1 := (y 0).isLt
    have h1 : (y 1).val < 1024 := (y 1).isLt
    have h2 : (y 2).val < 256 := (y 2).isLt
    rcases Nat.lt_or_ge (y 1).val 512 with h | h
    · left
      intro d; fin_cases d
      · exact ⟨Nat.zero_le _, by show (y 0).val < 0 + 1; omega⟩
      · exact ⟨Nat.zero_le _, by show (y 1).val < 0 + 512; omega⟩
      · exact ⟨Nat.zero_le _, by show (y 2).val < 0 + 256; omega⟩
    · right
      intro d; fin_cases d
      · exact ⟨Nat.zero_le _, by show (y 0).val < 0 + 1; omega⟩
      · exact ⟨h, by show (y 1).val < 512 + 512; omega⟩
      · exact ⟨Nat.zero_le _, by show (y 2).val < 0 + 256; omega⟩

theorem tile_two_0 {α : Type} (a b : S1x512x256.Idx → α) : tile (two a b) 0 = a := by
  unfold tile two
  rw [VecWindow.window_put_of_disjoint _ _ _ _ _ _ _ 1 (Or.inl (by decide))]
  exact VecWindow.window_put_same _ _ _ _ _
theorem tile_two_1 {α : Type} (a b : S1x512x256.Idx → α) : tile (two a b) 1 = b :=
  VecWindow.window_put_same _ _ _ _ _

/-- Two row tiles of one chunk of the result. -/
def two₂ {α : Type} (a b : S512x256.Idx → α) : S1024x256.Idx → α :=
  VecWindow.put (VecWindow.put (fun _ => a first₂) ![0, 0] S512x256.size a) ![512, 0] S512x256.size b

theorem two₂_of_puts {α : Type} (X : S1024x256.Idx → α) (a b : S512x256.Idx → α) :
    VecWindow.put (VecWindow.put X ![0, 0] S512x256.size a) ![512, 0] S512x256.size b = two₂ a b :=
  put_put_cover _ _ _ _ _ _ _ _ fun y => by
    have h0 : (y 0).val < 1024 := (y 0).isLt
    have h1 : (y 1).val < 256 := (y 1).isLt
    rcases Nat.lt_or_ge (y 0).val 512 with h | h
    · left
      intro d; fin_cases d
      · exact ⟨Nat.zero_le _, by show (y 0).val < 0 + 512; omega⟩
      · exact ⟨Nat.zero_le _, by show (y 1).val < 0 + 256; omega⟩
    · right
      intro d; fin_cases d
      · exact ⟨h, by show (y 0).val < 512 + 512; omega⟩
      · exact ⟨Nat.zero_le _, by show (y 1).val < 0 + 256; omega⟩

/-- The two column halves of a block of the second operand, copied one after the other, are the block. -/
theorem wbf_of_puts {α : Type} (X w : S4096x256.Idx → α) (i₀ : ∀ a, (![0, 0] : Fin 2 → ℕ) a + S4096x128.size a ≤ S4096x256.size a)
    (i₁ : ∀ a, (![0, 128] : Fin 2 → ℕ) a + S4096x128.size a ≤ S4096x256.size a) :
    VecWindow.put (VecWindow.put X ![0, 0] S4096x128.size (VecWindow.window w ![0, 0] S4096x128.size i₀)) ![0, 128] S4096x128.size
      (VecWindow.window w ![0, 128] S4096x128.size i₁) = w := by
  rw [put_put_cover X w, put_window w, put_window w]
  intro y
  have h0 : (y 0).val < 4096 := (y 0).isLt
  have h1 : (y 1).val < 256 := (y 1).isLt
  rcases Nat.lt_or_ge (y 1).val 128 with h | h
  · left
    intro d; fin_cases d
    · exact ⟨Nat.zero_le _, by show (y 0).val < 0 + 4096; omega⟩
    · exact ⟨Nat.zero_le _, by show (y 1).val < 0 + 128; omega⟩
  · right
    intro d; fin_cases d
    · exact ⟨Nat.zero_le _, by show (y 0).val < 0 + 4096; omega⟩
    · exact ⟨h, by show (y 1).val < 128 + 128; omega⟩

/-! ## The chunks -/

/-- Half `h` of the rows of `O` times a block of columns, rounded. -/
def prod (O : Vec F S2048x4096 .bf16) (w : Vec F S4096x256 .bf16) (h : Fin 2) : Vec F S1x1024x256 .bf16 :=
  two (k0_pay4 (rowTile O h 0) w) (k0_pay4 (rowTile O h 1) w)

theorem pay6_pay5 (o : Vec F S512x4096 .bf16) (w : Vec F S4096x256 .bf16) : k0_pay6 (k0_pay5 o w) = k0_pay4 o w := rfl
theorem pay7_eq (o : Vec F S512x4096 .bf16) (w : Vec F S4096x256 .bf16) : k0_pay7 o w = k0_pay4 o w := rfl
theorem pay1_pay8 (o : Vec F S512x4096 .bf16) (w : Vec F S4096x256 .bf16) : k0_pay1 (k0_pay8 o) w = k0_pay4 o w := rfl
theorem pay10_eq (a b : Vec F S1x512x256 .bf16) : k0_pay10 a b = k0_pay9 a b := rfl
theorem pay2_eq (v : Vec F S4096x128 .bf16) : k0_pay2 v = v := by
  unfold k0_pay2; simp only [shapeCast_self]
theorem pay3_eq (v : Vec F S4096x128 .bf16) : k0_pay3 v = v := by
  unfold k0_pay3; simp only [shapeCast_self]

section Chunks

variable (Og : Dev nD → Vec F S2048x4096 .bf16) (Wg : Dev nD → ℕ → Vec F S4096x256 .bf16)

/-- Chunk `j` of device `c`'s product on its own half of the rows: what it keeps. -/
def kept (c : Dev nD) (j : ℕ) : Vec F S1x1024x256 .bf16 := prod (Og c) (Wg c j) (half c)
/-- Chunk `j` of device `c`'s product on its partner's half of the rows: what it sends. -/
def sent (c : Dev nD) (j : ℕ) : Vec F S1x1024x256 .bf16 := prod (Og c) (Wg c j) (half (pr c))
/-- Chunk `j` of device `c`'s result: what it keeps and what its partner sends, added. -/
def outV (c : Dev nD) (j : ℕ) : Vec F S1024x256 .f32 :=
  two₂ (k0_pay9 (tile (kept Og Wg c j) 0) (tile (sent Og Wg (pr c) j) 0)) (k0_pay9 (tile (kept Og Wg c j) 1) (tile (sent Og Wg (pr c) j) 1))

end Chunks

end Cert.KernelIdeal.Own

end
-- ==== Proof.Protocol.lean ====
/-
  How the devices talk: the cells of the barrier and of the chunks, what each signal hands over, in which order a core
  may wait, and what it owes.

  Chunk `i` leaves device `c` from its send slot `i % 2` and lands in its partner's receive slot `i % 4`. At the barrier
  each device gives its partner the first two receive slots; with chunk `i` it gives back slot `i + 2`, which it has read
  by then. So a device holds the right to write its partner's slot exactly when it sends there.
-/
module

public import proofs.«01_k».proof.Proof.Values
public import Idealize.ShloMosaic.Lib.Pipeline.RegionTalk

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

/-! ## Cells and slots -/

/-- The staging library's copy of the algebra and the protocol's. -/
abbrev UU : Type := UR sig nD τ × UR sig nD τ

local notation "𝕄" => MT nD τ sig ℕ (Elt F) ℕ UU ℕ

abbrev EP : Emb (UR sig nD τ) (MT nD τ sig ℕ (Elt F) ℕ UU ℕ) := embL
abbrev ER : Emb (UR sig nD τ) (MT nD τ sig ℕ (Elt F) ℕ UU ℕ) := embR

def sendSem (i : ℕ) : DmaSem sig := ⟨5 + i % 2, by show 5 + i % 2 < 11; omega⟩
def recvSem (i : ℕ) : DmaSem sig := ⟨7 + i % 4, by show 7 + i % 4 < 11; omega⟩

theorem sendSem_val (i : ℕ) : (sendSem i).val = 5 + i % 2 := rfl
theorem recvSem_val (i : ℕ) : (recvSem i).val = 7 + i % 4 := rfl

abbrev barCell (c : Dev nD) : GSem nD τ sig := ((c : Thread nD τ), .reg barrier0)
/-- The cell on which the copy of chunk `i` reports that its source is read. -/
abbrev sendCell (c : Dev nD) (i : ℕ) : GSem nD τ sig := ((c : Thread nD τ), .dma (sendSem i))
/-- The cell on which chunk `i` reports that it has landed at `c`. -/
abbrev recvCell (c : Dev nD) (i : ℕ) : GSem nD τ sig := ((c : Thread nD τ), .dma (recvSem i))

theorem inbS2 (i : ℕ) : ∀ a, (![i % 2, 0, 0] : Fin 3 → ℕ) a + S1x1024x256.size a ≤ S2x1024x256.size a := by
  intro a
  fin_cases a
  · show i % 2 + 1 ≤ 2; omega
  · exact (by decide : 0 + 1024 ≤ 1024)
  · exact (by decide : 0 + 256 ≤ 256)
theorem inbS4 (i : ℕ) : ∀ a, (![i % 4, 0, 0] : Fin 3 → ℕ) a + S1x1024x256.size a ≤ S4x1024x256.size a := by
  intro a
  fin_cases a
  · show i % 4 + 1 ≤ 4; omega
  · exact (by decide : 0 + 1024 ≤ 1024)
  · exact (by decide : 0 + 256 ≤ 256)

abbrev A4 : Memref sig .tc .vmem S2x1024x256 .bf16 := Memref.whole cc0_scratch0
abbrev A5 : Memref sig .tc .vmem S4x1024x256 .bf16 := Memref.whole cc0_scratch1
abbrev A6 : Memref sig .tc .vmem S2x1024x256 .bf16 := Memref.whole cc0_scratch2
abbrev A7 : Memref sig .tc .vmem S4096x256 .bf16 := Memref.whole cc0_scratch3

/-- The slot chunk `i` is sent from, the slot it lands in, and the slot in which its other half waits. -/
abbrev sendS (i : ℕ) : Memref sig .tc .vmem S1x1024x256 .bf16 := A4.slice (Rect.unit (s := S2x1024x256) ![i % 2, 0, 0] S1x1024x256.size (inbS2 i)) (fun _ => rfl)
abbrev recvS (i : ℕ) : Memref sig .tc .vmem S1x1024x256 .bf16 := A5.slice (Rect.unit (s := S4x1024x256) ![i % 4, 0, 0] S1x1024x256.size (inbS4 i)) (fun _ => rfl)
abbrev stageS (i : ℕ) : Memref sig .tc .vmem S1x1024x256 .bf16 := A6.slice (Rect.unit (s := S2x1024x256) ![i % 2, 0, 0] S1x1024x256.size (inbS2 i)) (fun _ => rfl)

/-- What a copy of one chunk adds to a cell. -/
def N : ℕ := ((recvS 0).squeeze S1024x256 squeezes_S1x1024x256_S1024x256).view.dmaCredit
theorem N_pos : 0 < N := View.dmaCredit_pos _ (by decide)

theorem sendSem_congr {i j : ℕ} (h : i % 2 = j % 2) : sendSem i = sendSem j := Fin.ext (by show 5 + i % 2 = 5 + j % 2; rw [h])
theorem recvSem_congr {i j : ℕ} (h : i % 4 = j % 4) : recvSem i = recvSem j := Fin.ext (by show 7 + i % 4 = 7 + j % 4; rw [h])
theorem slot_congr {s t : Shape} (m : Memref sig .tc .vmem s .bf16) {o o' : Fin s.rank → ℕ} (h : o = o') (z : Fin s.rank → ℕ) (i i') :
    m.slice (Rect.unit o z i) (fun _ => rfl) = m.slice (Rect.unit o' z i') (fun _ => rfl) := by subst h; rfl
theorem sendS_congr {i j : ℕ} (h : i % 2 = j % 2) : sendS i = sendS j := slot_congr (t := S1x1024x256) A4 (by rw [h]) _ _ _
theorem recvS_congr {i j : ℕ} (h : i % 4 = j % 4) : recvS i = recvS j := slot_congr (t := S1x1024x256) A5 (by rw [h]) _ _ _
theorem stageS_congr {i j : ℕ} (h : i % 2 = j % 2) : stageS i = stageS j := slot_congr (t := S1x1024x256) A6 (by rw [h]) _ _ _

/-! ## The schedule -/

section Rd

variable (Og : Dev nD → Vec F S2048x4096 .bf16) (Wg : Dev nD → ℕ → Vec F S4096x256 .bf16)

/-- A slot at contents not chosen. -/
def free (c : Dev nD) (s : Memref sig .tc .vmem S1x1024x256 .bf16) : sProp 𝕄 := iprop(∃ X, owns (c : Thread nD τ) s fullShare X)

/-- The right to send chunk `i` to `c`: the slot it lands in, and that `c` waits for it there. -/
def right (c : Dev nD) (i : ℕ) : sProp 𝕄 := iprop(free c (recvS i) ∗ reached ER (recvCell c i) (i / 4))
/-- What `c` gives back with its chunk `i`: the right to send it chunk `i + 2`, if there is one. -/
def nextRight (c : Dev nD) (i : ℕ) : sProp 𝕄 := if i + 2 < 32 then right c (i + 2) else iprop(emp)

def barPay (c : Dev nD) : sProp 𝕄 := iprop(right (pr c) 0 ∗ right (pr c) 1)
def recvPay (c : Dev nD) (i : ℕ) : sProp 𝕄 :=
  iprop(owns (c : Thread nD τ) (recvS i) fullShare (sent Og Wg (pr c) i) ∗ nextRight (pr c) i)
def sendPay (c : Dev nD) (i : ℕ) : sProp 𝕄 := free c (sendS i)

/-- What cell `g`'s signal of round `r` hands over. -/
def pay (g : GSem nD τ sig) (r : ℕ) : sProp 𝕄 :=
  match g.2 with
  | .reg _ => barPay g.1.1
  | .dma d => if 7 ≤ d.val then recvPay Og Wg g.1.1 (4 * r + (d.val - 7)) else if 5 ≤ d.val then sendPay g.1.1 (d.val - 5) else iprop(emp)

/-- How many rounds a cell has: one at the barrier, one for each chunk that goes through a slot. -/
def rounds (g : GSem nD τ sig) : ℕ :=
  match g.2 with
  | .reg _ => 1
  | .dma d => if 7 ≤ d.val then 8 else if 5 ≤ d.val then 16 else 0

/-- What one signal adds to a cell. -/
def amt (g : GSem nD τ sig) : ℕ := match g.2 with | .reg _ => 1 | .dma _ => N
theorem amt_pos (g : GSem nD τ sig) : 0 < amt g := by
  unfold amt
  split
  · exact Nat.one_pos
  · exact N_pos

/-- The schedule of all the cells. -/
def Rd : Rounds.Schedule (GSem nD τ sig) Unit 𝕄 where
  duties g r := if g.1.2 = .tc ∧ r < rounds g then {()} else ∅
  unitless _ := False
  amount g _ _ := amt g
  payload g r _ := pay Og Wg g r
  amount_pos g _ _ _ := amt_pos g

instance free_storable (c : Dev nD) (s) : BI.Storable (upEmb : UEmb _ 𝕄) (free (F := F) c s) := by unfold free; infer_instance
instance right_storable (c : Dev nD) (i : ℕ) : BI.Storable (upEmb : UEmb _ 𝕄) (right (F := F) c i) := by unfold right; infer_instance
instance nextRight_storable (c : Dev nD) (i : ℕ) : BI.Storable (upEmb : UEmb _ 𝕄) (nextRight (F := F) c i) := by
  unfold nextRight; split <;> infer_instance

instance Rd_storable (g : GSem nD τ sig) (r : ℕ) (d : Unit) : BI.Storable (upEmb : UEmb _ 𝕄) ((Rd Og Wg).payload g r d) := by
  show BI.Storable upEmb (pay Og Wg g r)
  unfold pay barPay recvPay sendPay
  (repeat' split) <;> infer_instance

variable (c : Dev nD)

theorem duties_bar : (Rd Og Wg).duties (barCell c) 0 = {()} := by
  show (if (barCell c).1.2 = .tc ∧ 0 < rounds (barCell c) then {()} else ∅) = _
  exact if_pos ⟨rfl, Nat.one_pos⟩
theorem rounds_send (i : ℕ) : rounds (sendCell c i) = 16 := by
  unfold rounds
  dsimp only
  rw [sendSem_val, if_neg (by omega), if_pos (by omega)]
theorem rounds_recv (i : ℕ) : rounds (recvCell c i) = 8 := by
  unfold rounds
  dsimp only
  rw [recvSem_val, if_pos (by omega)]
theorem duties_send (i r : ℕ) (h : r < 16) : (Rd Og Wg).duties (sendCell c i) r = {()} := if_pos ⟨rfl, by rw [rounds_send]; exact h⟩
theorem duties_recv (i r : ℕ) (h : r < 8) : (Rd Og Wg).duties (recvCell c i) r = {()} := if_pos ⟨rfl, by rw [rounds_recv]; exact h⟩
theorem duties_later (g : GSem nD τ sig) (R : ℕ) (h : rounds g ≤ R) : ∀ r, R ≤ r → (Rd Og Wg).duties g r = ∅ :=
  fun r hr => if_neg fun hh => by omega

theorem amount_dma (d : DmaSem sig) (r : ℕ) (u : Unit) : (Rd Og Wg).amount ((c : Thread nD τ), .dma d) r u = N := rfl
theorem amount_bar (r : ℕ) (u : Unit) : (Rd Og Wg).amount (barCell c) r u = 1 := rfl

theorem expect_bar : (Rd Og Wg).expect (barCell c) 0 = 1 := by
  unfold Schedule.expect Schedule.amountOf; rw [duties_bar, Finset.sum_singleton, amount_bar]
theorem expect_send (i r : ℕ) (h : r < 16) : (Rd Og Wg).expect (sendCell c i) r = N := by
  unfold Schedule.expect Schedule.amountOf; rw [duties_send _ _ _ _ _ h, Finset.sum_singleton, amount_dma]
theorem expect_recv (i r : ℕ) (h : r < 8) : (Rd Og Wg).expect (recvCell c i) r = N := by
  unfold Schedule.expect Schedule.amountOf; rw [duties_recv _ _ _ _ _ h, Finset.sum_singleton, amount_dma]

theorem payload_bar (r : ℕ) (u : Unit) : (Rd Og Wg).payload (barCell c) r u = barPay c := by
  show pay Og Wg (barCell c) r = _
  unfold pay
  rfl
theorem payload_send (i r : ℕ) (u : Unit) : (Rd Og Wg).payload (sendCell c i) r u = sendPay c i := by
  show pay Og Wg (sendCell c i) r = _
  unfold pay
  dsimp only
  rw [sendSem_val, if_neg (by omega), if_pos (by omega)]
  unfold sendPay
  rw [sendS_congr (show (5 + i % 2 - 5) % 2 = i % 2 by omega)]
theorem payload_recv (i : ℕ) (u : Unit) : (Rd Og Wg).payload (recvCell c i) (i / 4) u = recvPay Og Wg c i := by
  show pay Og Wg (recvCell c i) (i / 4) = _
  unfold pay
  dsimp only
  rw [recvSem_val, if_pos (by omega), show 4 * (i / 4) + (7 + i % 4 - 7) = i by omega]

theorem rest_bar : bigSep ((Rd Og Wg).duties (barCell c) 0 \ ∅) (fun u => (Rd Og Wg).payload (barCell c) 0 u) = barPay c := by
  rw [Finset.sdiff_empty, duties_bar, bigSep_singleton, payload_bar]
theorem rest_send (i r : ℕ) (h : r < 16) :
    bigSep ((Rd Og Wg).duties (sendCell c i) r \ ∅) (fun u => (Rd Og Wg).payload (sendCell c i) r u) = sendPay c i := by
  rw [Finset.sdiff_empty, duties_send _ _ _ _ _ h, bigSep_singleton, payload_send]
theorem rest_recv (i : ℕ) (h : i < 32) :
    bigSep ((Rd Og Wg).duties (recvCell c i) (i / 4) \ ∅) (fun u => (Rd Og Wg).payload (recvCell c i) (i / 4) u) = recvPay Og Wg c i := by
  rw [Finset.sdiff_empty, duties_recv _ _ _ _ _ (by omega), bigSep_singleton, payload_recv]

theorem close (κ : ℕ) (g : GSem nD τ sig) (R : ℕ) (h : rounds g ≤ R) :
    iprop(cellInv ER (Rd Og Wg) κ g ∗ atPos ER g R ∅ 0) ⊢ (|={Set.univ}=> semVal g 0 : sProp 𝕄) :=
  Rounds.cell_close ER (Rd Og Wg) (Set.mem_univ κ) id (duties_later Og Wg g R h)

end Rd

/-! ## All the cells -/

/-- The kernel's own cells on one core: two for the send slots, four for the receive slots. -/
abbrev osem : Fin 6 → SemLoc sig := fun k => .dma ⟨5 + k.val, by show 5 + k.val < 11; omega⟩

def barEmb : Dev nD ↪ GSem nD τ sig := ⟨fun c => barCell c, fun _ _ h => congrArg (fun g : GSem nD τ sig => g.1.1) h⟩
theorem osem_inj : Function.Injective osem := by decide
def ownEmb : Dev nD × Fin 6 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem bar_mem (c : Dev nD) : barCell c ∈ barCells ∪ ownCells :=
  Finset.mem_union_left _ (Finset.mem_map_of_mem barEmb (Finset.mem_univ c))
theorem send_mem (c : Dev nD) (i : ℕ) : sendCell c i ∈ barCells ∪ ownCells :=
  Finset.mem_union_right _ (Finset.mem_map_of_mem ownEmb (Finset.mem_univ (c, (⟨i % 2, by omega⟩ : Fin 6))))
theorem recv_mem (c : Dev nD) (i : ℕ) : recvCell c i ∈ barCells ∪ ownCells :=
  Finset.mem_union_right _ (Finset.mem_map.mpr ⟨(c, (⟨2 + i % 4, by omega⟩ : Fin 6)), Finset.mem_univ _, by
    show ((c : Thread nD τ), SemLoc.dma _) = ((c : Thread nD τ), SemLoc.dma _)
    congr 2
    exact Fin.ext (by show 5 + (2 + i % 4) = 7 + i % 4; omega)⟩)

section Invs

variable (Og : Dev nD → Vec F S2048x4096 .bf16) (Wg : Dev nD → ℕ → Vec F S4096x256 .bf16) (K : GSem nD τ sig → ℕ)

/-- Every cell's invariant, under the names `K`. -/
def invs : sProp 𝕄 := bigSep (barCells ∪ ownCells) fun g => cellInv ER (Rd Og Wg) (K g) g
instance invs_persistent : BI.Persistent (invs Og Wg K) := by unfold invs; infer_instance
theorem inv_bar (c : Dev nD) : invs Og Wg K ⊢ cellInv ER (Rd Og Wg) (K (barCell c)) (barCell c) := bigSep_elim (bar_mem c)
theorem inv_send (c : Dev nD) (i : ℕ) : invs Og Wg K ⊢ cellInv ER (Rd Og Wg) (K (sendCell c i)) (sendCell c i) := bigSep_elim (send_mem c i)
theorem inv_recv (c : Dev nD) (i : ℕ) : invs Og Wg K ⊢ cellInv ER (Rd Og Wg) (K (recvCell c i)) (recvCell c i) := bigSep_elim (recv_mem c i)

end Invs

/-! ## What a core owes, and in which order it waits -/

/-- The chunks from `t` on, each to be counted on the partner's receive cell. -/
def owedR (c : Dev nD) (t : ℕ) : CellTallies nD τ sig ℕ := ∑ i ∈ Finset.Ico t 32, tallyAt (recvCell (pr c) i) i N
theorem owedR_pop (c : Dev nD) {t : ℕ} (h : t < 32) : owedR c t = owedR c (t + 1) + tallyAt (recvCell (pr c) t) t N := by
  unfold owedR
  rw [show Finset.Ico t 32 = insert t (Finset.Ico (t + 1) 32) from Finset.ext fun x => by
    simp only [Finset.mem_Ico, Finset.mem_insert]; omega, Finset.sum_insert (by simp), add_comm]
theorem owedR_end (c : Dev nD) {t : ℕ} (h : 32 ≤ t) : owedR c t = 0 := by
  unfold owedR; rw [Finset.Ico_eq_empty (by omega), Finset.sum_empty]

/-- What it owes before point `t`: before the first one the signal at the barrier too. -/
def owedAt (c : Dev nD) (t : ℕ) : CellTallies nD τ sig ℕ :=
  if t = 0 then owedR c 0 + tallyAt (barCell (pr c)) 0 1 else owedR c t
theorem owedAt_zero (c : Dev nD) : owedAt c 0 = owedR c 0 + tallyAt (barCell (pr c)) 0 1 := if_pos rfl
theorem owedAt_succ (c : Dev nD) (t : ℕ) (h : t ≠ 0) : owedAt c t = owedR c t := if_neg h

def L (g : GSem nD τ sig) : Finset ℕ := if g.1.2 = .tc then Finset.range 33 else ∅
def lv (g : GSem nD τ sig) (i : ℕ) : ℕ := match g.2 with | .reg _ => 1 | .dma d => if 7 ≤ d.val then i + 2 else 0

theorem L_of_ne (g : GSem nD τ sig) (h : g.1.2 ≠ .tc) : L g = ∅ := if_neg h
theorem L_tc (c : Dev nD) (sm : SemLoc sig) : L ((c : Thread nD τ), sm) = Finset.range 33 := if_pos rfl
theorem lv_recv (c : Dev nD) (i k : ℕ) : lv (recvCell c i) k = k + 2 := by
  unfold lv
  dsimp only
  rw [recvSem_val, if_pos (by omega)]
theorem lv_send (c : Dev nD) (i k : ℕ) : lv (sendCell c i) k = 0 := by
  unfold lv
  dsimp only
  rw [sendSem_val, if_neg (by omega)]
theorem lv_bar (c : Dev nD) (k : ℕ) : lv (barCell c) k = 1 := rfl

theorem owedR_pos {c : Dev nD} {t : ℕ} {g : GSem nD τ sig} {k : ℕ} (h : 0 < owedR c t g k) : t ≤ k ∧ k < 32 ∧ g = recvCell (pr c) k := by
  obtain ⟨i, hi, hp⟩ := Pipeline.sum_pos_exists h
  rw [tallyAt_apply] at hp
  split at hp
  · next hg => obtain ⟨hg, rfl⟩ := hg; exact ⟨(Finset.mem_Ico.mp hi).1, (Finset.mem_Ico.mp hi).2, hg⟩
  · exact absurd hp (Nat.lt_irrefl 0)

theorem owedAt_cut {c : Dev nD} {t : ℕ} {g : GSem nD τ sig} {k : ℕ} (h : 0 < owedAt c t g k) : k ∈ L g ∧ 0 < lv g k := by
  have hR : ∀ t, 0 < owedR c t g k → k ∈ L g ∧ 0 < lv g k := fun t h => by
    obtain ⟨-, hk, rfl⟩ := owedR_pos h
    exact ⟨by rw [L_tc]; exact Finset.mem_range.mpr (by omega), by rw [lv_recv]; omega⟩
  unfold owedAt at h
  split at h
  · rcases Pipeline.add_pos_cases h with h | h
    · exact hR _ h
    · rw [tallyAt_apply] at h
      split at h
      · next hg => obtain ⟨rfl, rfl⟩ := hg; exact ⟨by rw [L_tc]; decide, by rw [lv_bar]; decide⟩
      · exact absurd h (Nat.lt_irrefl 0)
  · exact hR _ h

/-- A core may wait at the barrier, for a send slot, and for chunk `i` while it owes only later chunks. -/
theorem mayWait_bar (c : Dev nD) : (levAts L lv : sProp 𝕄) ⊢ MayWait (c : Thread nD τ) (.reg barrier0) 0 (owedR c 0) :=
  Pipeline.mayWait_of_levAts (by rw [L_tc]; decide) fun g k h => by
    obtain ⟨-, hk, rfl⟩ := owedR_pos h
    exact ⟨by rw [L_tc]; exact Finset.mem_range.mpr (by omega), by rw [lv_recv]; show 1 < k + 2; omega⟩
theorem mayWait_send (c : Dev nD) (i t : ℕ) : (levAts L lv : sProp 𝕄) ⊢ MayWait (c : Thread nD τ) (.dma (sendSem i)) 0 (owedR c t) :=
  Pipeline.mayWait_of_levAts (by rw [L_tc]; decide) fun g k h => by
    obtain ⟨-, hk, rfl⟩ := owedR_pos h
    exact ⟨by rw [L_tc]; exact Finset.mem_range.mpr (by omega), by
      rw [lv_recv]; exact (lv_send c i 0).trans_lt (by omega)⟩
theorem mayWait_recv (c : Dev nD) (i t : ℕ) (hi : i < 32) (ht : i < t) :
    (levAts L lv : sProp 𝕄) ⊢ MayWait (c : Thread nD τ) (.dma (recvSem i)) i (owedR c t) :=
  Pipeline.mayWait_of_levAts (by rw [L_tc]; exact Finset.mem_range.mpr (by omega)) fun g k h => by
    obtain ⟨htk, hk, rfl⟩ := owedR_pos h
    exact ⟨by rw [L_tc]; exact Finset.mem_range.mpr (by omega), by
      rw [lv_recv (pr c)]; exact (lv_recv c i i).trans_lt (by omega)⟩

end Cert.KernelIdeal.Own

end
-- ==== Proof.Steps.lean ====
/-
  One step each: the handshake at the barrier, a copy to the partner, a wait for a send slot, a wait for a chunk.
-/
module

public import proofs.«01_k».proof.Proof.Protocol

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

local notation "𝕄" => MT nD τ sig ℕ (Elt F) ℕ UU ℕ

abbrev 𝒱₀ : Variants := Variants.none

variable (Og : Dev nD → Vec F S2048x4096 .bf16) (Wg : Dev nD → ℕ → Vec F S4096x256 .bf16) (K : GSem nD τ sig → ℕ) (c : Dev nD)

section Steps

/-- The handshake: each gives the other its first two slots. -/
theorem barrier_step {α : Type} {Q : α → sProp 𝕄} {k : PUnit → Prog (TpuEff nD τ sig (Elt F) Λ₀ .tc) α} {d : Dev nD} (hd : d = pr c) (W : Waits sig ℕ) :
    iprop(invs Og Wg K ∗ reached ER (barCell (pr c)) 0 ∗ dutyTok ER (barCell (pr c)) 0 () ∗ (right c 0 ∗ right c 1)
        ∗ cred (tallyAt (barCell c) 0 1) ∗ atPos ER (barCell c) 0 ∅ 0 ∗ levAts L lv ∗ owes (c : Thread nD τ) (owedAt c 0) W)
      ⊢ (iprop(((∃ W, owes (c : Thread nD τ) (owedR c 0) W) ∗ atPos ER (barCell c) 1 ∅ 0 ∗ right (pr c) 0 ∗ right (pr c) 1
            -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc d) barrier0 1) fun _ => .op (.semWait barrier0 1) k) Q) : sProp 𝕄) := by
  subst hd
  iintro ⟨#HI, #HrP, HtP, HR, HcB, Hat, #Hlev, HO⟩ Hk
  iapply (Rounds.wp_signal 𝒱₀ ER (Rd Og Wg) (c : Thread nD τ) none (dst := (pr c : Thread nD τ)) (sem := barrier0) (r := 0) (d := ())
      (κ := K (barCell (pr c))) (by rw [duties_bar]; exact Finset.mem_singleton_self _) (amount_bar Og Wg (pr c) 0 ()) 0 (owedR c 0)
      (owedAt_zero c)) $$ [HO HtP HR]
  · isplitr; · iapply (inv_bar Og Wg K (pr c)); iexact HI
    isplitl [HO]; · iexact HO
    isplitl [HtP]; · iexact HtP
    isplitl [HR]
    · rw [payload_bar]; unfold barPay; rw [pr_pr]; iexact HR
    · iexact HrP
  iintro HO
  iapply (Rounds.wp_wait_rest_token 𝒱₀ ER (Rd Og Wg) (c : Thread nD τ) none (κ := K (barCell c))
      (wpE_semWait_eq 𝒱₀ (c : Thread nD τ) none Set.univ) (Set.mem_univ _) 0 (O := owedR c 0) (W := W) (R := 0) (m := 0) (T := ∅)
      ((Nat.zero_add 1).trans (expect_bar Og Wg c).symm)) $$ [HcB HO Hat]
  · isplitr; · iapply (inv_bar Og Wg K c); iexact HI
    isplitl [HcB]; · iexact HcB
    isplitl [HO]; · iexact HO
    isplitr; · iapply (mayWait_bar c); iexact Hlev
    iexact Hat
  iintro ⟨HO, Hat, -, Hpay⟩
  ihave Hp := (Entails.of_eq (rest_bar Og Wg c)) $$ Hpay
  unfold barPay
  iapply Hk
  isplitl [HO]; · iexists _; iexact HO
  isplitl [Hat]; · iexact Hat
  iexact Hp

/-- A wait for a send slot: it comes back. -/
theorem wait_send_step {α : Type} {Q : α → sProp 𝕄} {k : PUnit → Prog (TpuEff nD τ sig (Elt F) Λ₀ .tc) α} (i R u : ℕ) (hR : R < 16) (W : Waits sig ℕ) {sm : DmaSem sig} (hs : sm = sendSem i)
    {sp sp' : Space} {s : Shape} {e : EltTy} {src : Memref sig .tc sp s e} {dst : Memref sig .tc sp' s e} {h₁ h₂}
    (hN : dst.view.dmaCredit = N) :
    iprop(invs Og Wg K ∗ cred (tallyAt (sendCell c i) 0 N) ∗ atPos ER (sendCell c i) R ∅ 0 ∗ levAts L lv ∗ owes (c : Thread nD τ) (owedR c u) W)
      ⊢ (iprop(((∃ W, owes (c : Thread nD τ) (owedR c u) W) ∗ atPos ER (sendCell c i) (R + 1) ∅ 0 ∗ reached ER (sendCell c i) (R + 1) ∗ free c (sendS i)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst h₁ h₂) k) Q) : sProp 𝕄) := by
  subst hs
  iintro ⟨#HI, Hc, Hat, #Hlev, HO⟩ Hk
  iapply (Rounds.wp_wait_rest_token 𝒱₀ ER (Rd Og Wg) (c : Thread nD τ) none (κ := K (sendCell c i))
      (wpE_waitDma2_eq (src := src) (dst := dst) 𝒱₀ (c : Thread nD τ) none Set.univ) (Set.mem_univ _) 0 (O := owedR c u) (W := W) (R := R) (m := 0) (T := ∅)
      ((Nat.zero_add _).trans (hN.trans (expect_send Og Wg c i R hR).symm))) $$ [Hc HO Hat]
  · isplitr; · iapply (inv_send Og Wg K c i); iexact HI
    isplitl [Hc]; · rw [hN]; iexact Hc
    isplitl [HO]; · iexact HO
    isplitr; · iapply (mayWait_send c i u); iexact Hlev
    iexact Hat
  iintro ⟨HO, Hat, Hr, Hpay⟩
  ihave Hp := (Entails.of_eq (rest_send Og Wg c i R hR)) $$ Hpay
  unfold sendPay
  iapply Hk
  isplitl [HO]; · iexists _; iexact HO
  isplitl [Hat]; · iexact Hat
  isplitl [Hr]; · iexact Hr
  iexact Hp

/-- A wait for chunk `i`: it has landed, and with it comes the right to send chunk `i + 2`. -/
theorem wait_recv_step {α : Type} {Q : α → sProp 𝕄} {k : PUnit → Prog (TpuEff nD τ sig (Elt F) Λ₀ .tc) α} (i u : ℕ) (hi : i < 32) (hu : i < u) (W : Waits sig ℕ) {sm : DmaSem sig} (hs : sm = recvSem i)
    {sp sp' : Space} {s : Shape} {e : EltTy} {src : Memref sig .tc sp s e} {dst : Memref sig .tc sp' s e} {h₁ h₂}
    (hN : dst.view.dmaCredit = N) :
    iprop(invs Og Wg K ∗ cred (tallyAt (recvCell c i) i N) ∗ atPos ER (recvCell c i) (i / 4) ∅ 0 ∗ levAts L lv ∗ owes (c : Thread nD τ) (owedR c u) W)
      ⊢ (iprop(((∃ W, owes (c : Thread nD τ) (owedR c u) W) ∗ atPos ER (recvCell c i) (i / 4 + 1) ∅ 0 ∗ reached ER (recvCell c i) (i / 4 + 1)
              ∗ owns (c : Thread nD τ) (recvS i) fullShare (sent Og Wg (pr c) i) ∗ nextRight (pr c) i
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst h₁ h₂) k) Q) : sProp 𝕄) := by
  subst hs
  iintro ⟨#HI, Hc, Hat, #Hlev, HO⟩ Hk
  iapply (Rounds.wp_wait_rest_token 𝒱₀ ER (Rd Og Wg) (c : Thread nD τ) none (κ := K (recvCell c i))
      (wpE_waitDma2_eq (src := src) (dst := dst) 𝒱₀ (c : Thread nD τ) none Set.univ) (Set.mem_univ _) i (O := owedR c u) (W := W) (R := i / 4) (m := 0) (T := ∅)
      ((Nat.zero_add _).trans (hN.trans (expect_recv Og Wg c i (i / 4) (by omega)).symm))) $$ [Hc HO Hat]
  · isplitr; · iapply (inv_recv Og Wg K c i); iexact HI
    isplitl [Hc]; · rw [hN]; iexact Hc
    isplitl [HO]; · iexact HO
    isplitr; · iapply (mayWait_recv c i u hi hu); iexact Hlev
    iexact Hat
  iintro ⟨HO, Hat, Hr, Hpay⟩
  ihave Hp := (Entails.of_eq (rest_recv Og Wg c i hi)) $$ Hpay
  unfold recvPay
  iapply Hk
  isplitl [HO]; · iexists _; iexact HO
  isplitl [Hat]; · iexact Hat
  isplitl [Hr]; · iexact Hr
  iexact Hp

/-- The copy pays back the slot it reads. -/
theorem sent_pay (t : ℕ) (fs : Buf (Elt F) (((sendS t).squeeze S1024x256 squeezes_S1x1024x256_S1024x256).view.loc (c : Thread nD τ))) :
    (((sendS t).squeeze S1024x256 squeezes_S1x1024x256_S1024x256).view.loc (c : Thread nD τ)
        ↦[((sendS t).squeeze S1024x256 squeezes_S1x1024x256_S1024x256).view.set]{fullShare} fs : sProp 𝕄)
      ⊢ (Rd Og Wg).payload ((c : Thread nD τ), .dma (sendSem t)) (t / 2) () := by
  rw [Memref.set_view_squeeze]
  refine .trans ?_ (Entails.of_eq (payload_send Og Wg c t (t / 2) ()).symm)
  unfold sendPay free
  refine .trans (owns_intro (c : Thread nD τ) (sendS t) fullShare fs) ?_
  iintro H
  iexists ((sendS t).view.read (Elt F) fs)
  iexact H

/-- It pays the chunk that lands, and the right that goes with it. -/
theorem landed_pay (t : ℕ) (fs : Buf (Elt F) (((sendS t).squeeze S1024x256 squeezes_S1x1024x256_S1024x256).view.loc (c : Thread nD τ)))
    (fd : Buf (Elt F) (((recvS t).squeeze S1024x256 squeezes_S1x1024x256_S1024x256).view.loc (pr c : Thread nD τ)))
    (hfs : (sendS t).view.read (Elt F) fs = sent Og Wg c t) :
    iprop((((recvS t).squeeze S1024x256 squeezes_S1x1024x256_S1024x256).view.loc (pr c : Thread nD τ)
        ↦[((recvS t).squeeze S1024x256 squeezes_S1x1024x256_S1024x256).view.set]{fullShare}
          (((recvS t).squeeze S1024x256 squeezes_S1x1024x256_S1024x256).view.write (Elt F) fd
            (((sendS t).squeeze S1024x256 squeezes_S1x1024x256_S1024x256).view.read (Elt F) fs) Finset.univ)) ∗ nextRight c t)
      ⊢ ((Rd Og Wg).payload ((pr c : Thread nD τ), .dma (recvSem t)) (t / 4) () : sProp 𝕄) := by
  refine .trans ?_ (Entails.of_eq (payload_recv Og Wg (pr c) t ()).symm)
  unfold recvPay
  rw [pr_pr, ← hfs]
  exact sep_mono_left (owns_of_landed (pr c : Thread nD τ) (sendS t) (recvS t) squeezes_S1x1024x256_S1024x256 fd fs)

/-- The copy of chunk `t` to the partner. -/
theorem send_step {α : Type} {Q : α → sProp 𝕄} {k : PUnit → Prog (TpuEff nD τ sig (Elt F) Λ₀ .tc) α} (t : ℕ) (ht : t < 32) (W : Waits sig ℕ) {d : Dev nD} (hd : d = pr c) {sS sR : DmaSem sig} (hS : sS = sendSem t) (hR : sR = recvSem t)
    {oS oR : Fin 3 → ℕ} {iS iR} (eS : oS = ![t % 2, 0, 0]) (eR : oR = ![t % 4, 0, 0]) {h₁ h₂ h₃} :
    iprop(invs Og Wg K ∗ owns (c : Thread nD τ) (sendS t) fullShare (sent Og Wg c t) ∗ right (pr c) t ∗ nextRight c t
        ∗ dutyTok ER (sendCell c t) (t / 2) () ∗ reached ER (sendCell c t) (t / 2) ∗ dutyTok ER (recvCell (pr c) t) (t / 4) ()
        ∗ owes (c : Thread nD τ) (owedR c t) W)
      ⊢ (iprop((cred (tallyAt (sendCell c t) 0 N) ∗ owes (c : Thread nD τ) (owedR c (t + 1)) W
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((A4.slice (Rect.unit (s := S2x1024x256) oS S1x1024x256.size iS) (fun _ => rfl)).squeeze S1024x256 squeezes_S1x1024x256_S1024x256)
              (.remote (Dev.tc d) ((A5.slice (Rect.unit (s := S4x1024x256) oR S1x1024x256.size iR) (fun _ => rfl)).squeeze S1024x256 squeezes_S1x1024x256_S1024x256) (.dma sS))
              (.dma sR) h₁ h₂ h₃) k) Q) : sProp 𝕄) := by
  subst hd hS hR eS eR
  unfold right free
  iintro ⟨#HI, Hs, ⟨⟨%X, Hd⟩, #HrR⟩, Hn, HtS, #HrS, HtR, HO⟩ Hk
  unfold owns
  icases Hs with ⟨%fs, %hfs, Hs⟩
  icases Hd with ⟨%fd, %hfd, Hd⟩
  iapply (Rounds.wp_send_pointsTo_with 𝒱₀ ER (Rd Og Wg) (c : Thread nD τ) none (c' := (pr c : Thread nD τ))
      (src := (sendS t).squeeze S1024x256 squeezes_S1x1024x256_S1024x256) (dst := (recvS t).squeeze S1024x256 squeezes_S1x1024x256_S1024x256)
      (sS := .dma (sendSem t)) (sem := .dma (recvSem t)) (q := fullShare) (fs := fs) (fd := fd) (F := nextRight c t)
      (κ₁ := K (sendCell c t)) (κ₂ := K (recvCell (pr c) t)) (r₁ := t / 2) (r₂ := t / 4) (d₁ := ()) (d₂ := ())
      (by rw [duties_send _ _ _ _ _ (by omega)]; exact Finset.mem_singleton_self _)
      (by rw [duties_recv _ _ _ _ _ (by omega)]; exact Finset.mem_singleton_self _)
      t 0 N rfl rfl rfl (owedR c (t + 1)) (owedR_pop c ht) (W := W)
      (sent_pay Og Wg c t fs) (landed_pay Og Wg c t fs fd hfs)) $$ [Hs Hd Hn HO HtS HtR]
  · isplitr; · iapply (inv_send Og Wg K c t); iexact HI
    isplitr; · iapply (inv_recv Og Wg K (pr c) t); iexact HI
    rw [Memref.set_view_squeeze, Memref.set_view_squeeze]
    isplitl [Hs]; · iexact Hs
    isplitl [Hd Hn]; · isplitl [Hd]; · iexact Hd
                       iexact Hn
    isplitl [HO]; · iexact HO
    isplitl [HtS]; · iexact HtS
    isplitr; · iexact HrS
    isplitl [HtR]; · iexact HtR
    iexact HrR
  iexact Hk

end Steps

end Cert.KernelIdeal.Own

end
-- ==== Proof.Body.lean ====
/-
  The body of one grid point, part by part, at a device not named.
-/
module

public import proofs.«01_k».proof.Proof.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

local notation "𝕄" => MT nD τ sig ℕ (Elt F) ℕ UU ℕ

/-! ## Where the body reads and writes -/

theorem cond1_iff : ∀ i : grid0.Coords, k0_cond1 i = 1#1 ↔ (i 0).val = 0 := by decide +kernel
theorem cond2_iff : ∀ i : grid0.Coords, k0_cond2 i = 1#1 ↔ (i 0).val < 32 := by decide +kernel
theorem cond3_iff : ∀ i : grid0.Coords, k0_cond3 i = 1#1 ↔ 2 ≤ (i 0).val := by decide +kernel
theorem cond4_iff : ∀ i : grid0.Coords, k0_cond4 i = 1#1 ↔ 0 < (i 0).val := by decide +kernel
theorem off12_eq : ∀ i : grid0.Coords, 0 < (i 0).val → k0_off12 i = ![((i 0).val - 1) % 4] := by decide +kernel
theorem off13_eq : ∀ i : grid0.Coords, 0 < (i 0).val → k0_off13 i = ![((i 0).val - 1) % 4, 0, 0] := by decide +kernel
theorem off15_eq : ∀ i : grid0.Coords, 0 < (i 0).val → k0_off15 i = ![((i 0).val - 1) % 2, 0, 0] := by decide +kernel
theorem off16_eq : ∀ i : grid0.Coords, 0 < (i 0).val → k0_off16 i = ![((i 0).val - 1) % 4, 0, 0] := by decide +kernel
theorem off17_eq : ∀ i : grid0.Coords, 0 < (i 0).val → k0_off17 i = ![((i 0).val - 1) % 2, 512, 0] := by decide +kernel
theorem off18_eq : ∀ i : grid0.Coords, 0 < (i 0).val → k0_off18 i = ![((i 0).val - 1) % 4, 512, 0] := by decide +kernel

theorem off4_0 (c : Dev nD) : k0_off4 c 0#32 = ![1024 * (half (pr c)).val + 512 * (0 : Fin 2).val, 0] := by
  revert c; decide +kernel
theorem off4_1 (c : Dev nD) : k0_off4 c 512#32 = ![1024 * (half (pr c)).val + 512 * (1 : Fin 2).val, 0] := by
  revert c; decide +kernel
theorem off11_0 (c : Dev nD) : k0_off11 c 0#32 = ![1024 * (half c).val + 512 * (0 : Fin 2).val, 0] := by
  revert c; decide +kernel
theorem off11_1 (c : Dev nD) : k0_off11 c 512#32 = ![1024 * (half c).val + 512 * (1 : Fin 2).val, 0] := by
  revert c; decide +kernel

/-- A window of rows read at the offsets of a row tile is that row tile. -/
theorem window_rows (O : Vec F S2048x4096 .bf16) (h b : Fin 2) {o : Fin 2 → ℕ} (e : o = ![1024 * h.val + 512 * b.val, 0])
    (i : ∀ a, o a + S512x4096.size a ≤ S2048x4096.size a) : VecWindow.window O o S512x4096.size i = rowTile O h b := by
  subst e; rfl

theorem tile_at (X : Vec F S1x1024x256 .bf16) (b : Fin 2) :
    VecWindow.window (s := S1x1024x256) X ![0, 512 * b.val, 0] S1x512x256.size (inbTile b) = tile X b := rfl

theorem in_slot {n b : ℕ} {o : Fin 3 → ℕ} (h : o = ![n, b, 0]) : ∀ a, o a = (![n, 0, 0] : Fin 3 → ℕ) a + (![0, b, 0] : Fin 3 → ℕ) a := by
  subst h
  intro a
  fin_cases a
  · rfl
  · exact (Nat.zero_add b).symm
  · rfl

theorem sem_send0 : ((cc0_scratch4.slice (Rect.unit (s := S2) ![0] S1.size inb_S2_S1_0)).squeeze S_ squeezes_S1_S_).sem = sendSem 0 := by
  decide +kernel
theorem sem_send1 : ((cc0_scratch4.slice (Rect.unit (s := S2) ![1] S1.size inb_S2_S1_1)).squeeze S_ squeezes_S1_S_).sem = sendSem 1 := by
  decide +kernel
theorem sem_send_at (i : ℕ) {o : Fin 1 → ℕ} (h : o = ![i % 2]) (inb) :
    ((cc0_scratch4.slice (Rect.unit (s := S2) o S1.size inb)).squeeze S_ squeezes_S1_S_).sem = sendSem i := by
  subst h
  have : i % 2 < 2 := Nat.mod_lt _ (by decide)
  rw [show sendSem i = sendSem (i % 2) from sendSem_congr (by omega)]
  revert inb
  generalize i % 2 = s at *
  match s, this with
  | 0, _ => exact fun _ => sem_send0
  | 1, _ => exact fun _ => sem_send1
theorem sem_recv0 : ((cc0_scratch5.slice (Rect.unit (s := S4) ![0] S1.size (by decide))).squeeze S_ squeezes_S1_S_).sem = recvSem 0 := by
  decide +kernel
theorem sem_recv1 : ((cc0_scratch5.slice (Rect.unit (s := S4) ![1] S1.size (by decide))).squeeze S_ squeezes_S1_S_).sem = recvSem 1 := by
  decide +kernel
theorem sem_recv2 : ((cc0_scratch5.slice (Rect.unit (s := S4) ![2] S1.size (by decide))).squeeze S_ squeezes_S1_S_).sem = recvSem 2 := by
  decide +kernel
theorem sem_recv3 : ((cc0_scratch5.slice (Rect.unit (s := S4) ![3] S1.size (by decide))).squeeze S_ squeezes_S1_S_).sem = recvSem 3 := by
  decide +kernel
theorem sem_recv_at (i : ℕ) {o : Fin 1 → ℕ} (h : o = ![i % 4]) (inb) :
    ((cc0_scratch5.slice (Rect.unit (s := S4) o S1.size inb)).squeeze S_ squeezes_S1_S_).sem = recvSem i := by
  subst h
  have : i % 4 < 4 := Nat.mod_lt _ (by decide)
  rw [show recvSem i = recvSem (i % 4) from recvSem_congr (by omega)]
  revert inb
  generalize i % 4 = s at *
  match s, this with
  | 0, _ => exact fun _ => sem_recv0
  | 1, _ => exact fun _ => sem_recv1
  | 2, _ => exact fun _ => sem_recv2
  | 3, _ => exact fun _ => sem_recv3

/-- Every copy of one chunk adds the same to a cell. -/
theorem credit_send (o : Fin 3 → ℕ) (inb) :
    ((A4.slice (Rect.unit (s := S2x1024x256) o S1x1024x256.size inb) (fun _ => rfl)).squeeze S1024x256 squeezes_S1x1024x256_S1024x256).view.dmaCredit = N := rfl
theorem credit_recv (o : Fin 3 → ℕ) (inb) :
    ((A5.slice (Rect.unit (s := S4x1024x256) o S1x1024x256.size inb) (fun _ => rfl)).squeeze S1024x256 squeezes_S1x1024x256_S1024x256).view.dmaCredit = N := rfl

variable (Og : Dev nD → Vec F S2048x4096 .bf16) (Wg : Dev nD → ℕ → Vec F S4096x256 .bf16) (K : GSem nD τ sig → ℕ) (c : Dev nD)

/-- The send slot of chunk `i` before it is written: at first free, and later with the copy of chunk `i - 2` to wait for. -/
def sendSt (i : ℕ) : sProp 𝕄 :=
  iprop(atPos ER (sendCell c i) (i / 2 - 1) ∅ 0 ∗ reached ER (sendCell c i) (i / 2 - 1)
    ∗ (if i < 2 then free c (sendS i) else cred (tallyAt (sendCell c i) 0 N)))

variable {i : grid0.Coords} {t : ℕ} (hi : (i 0).val = t)
  {a1 : Memref sig .tc .vmem S2048x4096 .bf16} {h1 : a1.IsWhole} {a2 : Memref sig .tc .vmem S4096x256 .bf16} {h2 : a2.IsWhole}
  {a3 : Memref sig .tc .vmem S1024x256 .f32} {h3 : a3.IsWhole} {h4 : A4.IsWhole} {h5 : A5.IsWhole} {h6 : A6.IsWhole} {h7 : A7.IsWhole}
  {q1 q2 : PosShare TreeShare}

include hi

set_option maxRecDepth 65536 in
/-- The block of the second operand is copied, the send slot waited for, and the first row tile put into it. -/
theorem part1_run (ht : t < 32) (O : Vec F S2048x4096 .bf16) (w : Vec F S4096x256 .bf16) (W : Waits sig ℕ) (v9 v10 : BitVec 32)
    (k2 : k0_cond2 i = 1#1) {Q : FVec F S512x256 .f32 → sProp 𝕄} :
    iprop(invs Og Wg K ∗ levAts L lv ∗ owes (c : Thread nD τ) (owedR c t) W ∗ owns (c : Thread nD τ) a1 q1 O ∗ owns (c : Thread nD τ) a2 q2 w
        ∗ (∃ X, owns (c : Thread nD τ) A7 fullShare X) ∗ sendSt c t)
      ⊢ (iprop(((∃ W, owes (c : Thread nD τ) (owedR c t) W) ∗ owns (c : Thread nD τ) a1 q1 O ∗ owns (c : Thread nD τ) a2 q2 w
            ∗ owns (c : Thread nD τ) A7 fullShare w ∗ atPos ER (sendCell c t) (t / 2) ∅ 0 ∗ reached ER (sendCell c t) (t / 2)
            ∗ (∃ X : Vec F S1x1024x256 .bf16, owns (c : Thread nD τ) (sendS t) fullShare
                (VecWindow.put (s := S1x1024x256) X ![0, 0, 0] S1x512x256.size (k0_pay4 (rowTile O (half (pr c)) 0) w)))
            -∗ Q (k0_pay5 (rowTile O (half (pr c)) 1) w))
        -∗ wp frame (wpE (defs₀ (F := F)) 𝒱₀ (c : Thread nD τ) none) Set.univ
            (k0_part1 i a1 h1 a2 h2 a3 h3 A4 h4 A5 h5 A6 h6 A7 h7 cc0_scratch4 cc0_scratch5 (BitVec.ofNat 32 (i 0).val) c v9 v10 k2) Q) : sProp 𝕄) := by
  have e5 : k0_off5 i = ![t % 2, 0, 0] := by rw [k0_off5_eq, hi]
  iintro ⟨#HI, #Hlev, HO, H1, H2, ⟨%X7, H7⟩, HS⟩ Hk
  simp only [k0_part1_eq_skeleton]
  unfold k0_part1_skel
  simp only [Prog.lift, Prog.bind_op, Prog.bind_ret, Prog.pure_eq_ret]
  iapply (load_owns 𝒱₀ (c : Thread nD τ) none Set.univ) $$ H2
  iintro H2
  iapply (load_owns 𝒱₀ (c : Thread nD τ) none Set.univ) $$ H7
  iintro H7
  iapply (store_owns 𝒱₀ (c : Thread nD τ) none Set.univ) $$ H7
  iintro H7
  iapply (load_owns 𝒱₀ (c : Thread nD τ) none Set.univ) $$ H2
  iintro H2
  iapply (load_owns 𝒱₀ (c : Thread nD τ) none Set.univ) $$ H7
  iintro H7
  iapply (store_owns 𝒱₀ (c : Thread nD τ) none Set.univ) $$ H7
  iintro H7
  rw [pay2_eq, pay3_eq, wbf_of_puts]
  unfold sendSt
  rcases Nat.lt_or_ge t 2 with h | h
  on_goal 1 =>
    rw [dif_neg (fun hh => absurd ((cond3_iff i).mp hh) (by omega)), if_pos h]
    rw [show t / 2 - 1 = t / 2 by omega]
    icases HS with ⟨Hat, Hr, HS⟩
  on_goal 2 =>
    rw [dif_pos ((cond3_iff i).mpr (by omega)), if_neg (by omega : ¬ t < 2)]
    icases HS with ⟨Hat, -, HS⟩
    iapply (wait_send_step Og Wg K c t (t / 2 - 1) t (by omega) W (sem_send_at t (by rw [k0_off1_eq, hi]) _) (credit_send _ _)) $$ [HS Hat HO]
    · isplitr; · iexact HI
      isplitl [HS]; · iexact HS
      isplitl [Hat]; · iexact Hat
      isplitr; · iexact Hlev
      iexact HO
    rw [show t / 2 - 1 + 1 = t / 2 by omega]
    iintro ⟨⟨%W, HO⟩, Hat, Hr, HS⟩
  all_goals
    unfold free
    icases HS with ⟨%X, HS⟩
    iapply (load_owns 𝒱₀ (c : Thread nD τ) none Set.univ) $$ H1
    iintro H1
    iapply (load_owns 𝒱₀ (c : Thread nD τ) none Set.univ) $$ H7
    iintro H7
    iapply (load_slot 𝒱₀ (c : Thread nD τ) none Set.univ ![0, 0, 0] (in_slot e5) (inbTile 0)) $$ HS
    iintro HS
    iapply (store_slot 𝒱₀ (c : Thread nD τ) none Set.univ ![0, 0, 0] (in_slot e5) (inbTile 0)) $$ HS
    iintro HS
    iapply (load_owns 𝒱₀ (c : Thread nD τ) none Set.univ) $$ H1
    iintro H1
    iapply (load_owns 𝒱₀ (c : Thread nD τ) none Set.univ) $$ H7
    iintro H7
    rw [window_rows O (half (pr c)) 0 (off4_0 c), window_rows O (half (pr c)) 1 (off4_1 c), window_full, wp_ret]
    imodintro
    iapply Hk
    isplitl [HO]; · iexists _; iexact HO
    isplitl [H1]; · iexact H1
    isplitl [H2]; · iexact H2
    isplitl [H7]; · iexact H7
    isplitl [Hat]; · iexact Hat
    isplitl [Hr]; · iexact Hr
    iexists X
    iexact HS

set_option maxRecDepth 65536 in
/-- The second row tile is put into the send slot, the slot copied to the partner, and the first row tile of the other half kept. -/
theorem part2_run (ht : t < 32) (W : Waits sig ℕ) (v2 v5 v8 v9 v10 : BitVec 32)
    (k2 : k0_cond2 i = 1#1) {Q : FVec F S512x4096 .bf16 → sProp 𝕄} :
    iprop(invs Og Wg K ∗ owes (c : Thread nD τ) (owedR c t) W ∗ owns (c : Thread nD τ) a1 q1 (Og c)
        ∗ owns (c : Thread nD τ) A7 fullShare (Wg c t)
        ∗ (∃ X : Vec F S1x1024x256 .bf16, owns (c : Thread nD τ) (sendS t) fullShare
                (VecWindow.put (s := S1x1024x256) X ![0, 0, 0] S1x512x256.size (k0_pay4 (rowTile (Og c) (half (pr c)) 0) (Wg c t))))
        ∗ right (pr c) t ∗ nextRight c t ∗ dutyTok ER (sendCell c t) (t / 2) () ∗ reached ER (sendCell c t) (t / 2)
        ∗ dutyTok ER (recvCell (pr c) t) (t / 4) () ∗ free c (stageS t))
      ⊢ (iprop(((∃ W, owes (c : Thread nD τ) (owedR c (t + 1)) W) ∗ owns (c : Thread nD τ) a1 q1 (Og c)
            ∗ owns (c : Thread nD τ) A7 fullShare (Wg c t) ∗ cred (tallyAt (sendCell c t) 0 N)
            ∗ (∃ X : Vec F S1x1024x256 .bf16, owns (c : Thread nD τ) (stageS t) fullShare
                (VecWindow.put (s := S1x1024x256) X ![0, 0, 0] S1x512x256.size (k0_pay4 (rowTile (Og c) (half c) 0) (Wg c t))))
            -∗ Q (k0_pay8 (rowTile (Og c) (half c) 1)))
        -∗ wp frame (wpE (defs₀ (F := F)) 𝒱₀ (c : Thread nD τ) none) Set.univ
            (k0_part2 i a1 h1 a2 h2 a3 h3 A4 h4 A5 h5 A6 h6 A7 h7 cc0_scratch4 cc0_scratch5 c v2 v5 v8 v9 v10 k2
              (k0_pay5 (rowTile (Og c) (half (pr c)) 1) (Wg c t))) Q) : sProp 𝕄) := by
  have e5 : k0_off5 i = ![t % 2, 0, 0] := by rw [k0_off5_eq, hi]
  have e6 : k0_off6 i = ![t % 2, 512, 0] := by rw [k0_off6_eq, hi]
  unfold free
  iintro ⟨#HI, HO, H1, H7, ⟨%X, HS⟩, HR, HN, HtS, #HrS, HtR, ⟨%Y, HT⟩⟩ Hk
  simp only [k0_part2_eq_skeleton]
  unfold k0_part2_skel
  simp only [Prog.lift, Prog.bind_op, Prog.bind_ret, Prog.pure_eq_ret]
  iapply (load_slot 𝒱₀ (c : Thread nD τ) none Set.univ ![0, 512, 0] (in_slot e6) (inbTile 1)) $$ HS
  iintro HS
  iapply (store_slot 𝒱₀ (c : Thread nD τ) none Set.univ ![0, 512, 0] (in_slot e6) (inbTile 1)) $$ HS
  iintro HS
  rw [pay6_pay5]
  ihave HS := (Entails.of_eq (congrArg (fun X => owns (c : Thread nD τ) (sendS t) fullShare X)
    (two_of_puts X (k0_pay4 (rowTile (Og c) (half (pr c)) 0) (Wg c t)) (k0_pay4 (rowTile (Og c) (half (pr c)) 1) (Wg c t))))) $$ HS
  iapply (send_step Og Wg K c t ht W (dev2_pr c _) (sem_send_at t (by rw [k0_off7_eq, hi]) _) (sem_recv_at t (by rw [k0_off8_eq, hi]) _)
    (by rw [k0_off10_eq, hi]) (by rw [k0_off9_eq, hi])) $$ [HS HR HN HtS HtR HO]
  · isplitr; · iexact HI
    isplitl [HS]; · unfold sent prod; iexact HS
    isplitl [HR]; · iexact HR
    isplitl [HN]; · iexact HN
    isplitl [HtS]; · iexact HtS
    isplitr; · iexact HrS
    isplitl [HtR]; · iexact HtR
    iexact HO
  iintro ⟨Hc, HO⟩
  iapply (load_owns 𝒱₀ (c : Thread nD τ) none Set.univ) $$ H1
  iintro H1
  iapply (load_owns 𝒱₀ (c : Thread nD τ) none Set.univ) $$ H7
  iintro H7
  iapply (load_slot 𝒱₀ (c : Thread nD τ) none Set.univ ![0, 0, 0] (in_slot e5) (inbTile 0)) $$ HT
  iintro HT
  iapply (store_slot 𝒱₀ (c : Thread nD τ) none Set.univ ![0, 0, 0] (in_slot e5) (inbTile 0)) $$ HT
  iintro HT
  iapply (load_owns 𝒱₀ (c : Thread nD τ) none Set.univ) $$ H1
  iintro H1
  rw [window_rows (Og c) (half c) 0 (off11_0 c), window_rows (Og c) (half c) 1 (off11_1 c), window_full, pay7_eq, wp_ret]
  imodintro
  iapply Hk
  isplitl [HO]; · iexists _; iexact HO
  isplitl [H1]; · iexact H1
  isplitl [H7]; · iexact H7
  isplitl [Hc]; · iexact Hc
  iexists Y
  iexact HT

set_option maxRecDepth 65536 in
/-- Chunk `t - 1` is waited for, and its first row tile added to what was kept. -/
theorem part3_run (ht : 0 < t) (ht' : t ≤ 32) (u : ℕ) (hu : t - 1 < u) (W : Waits sig ℕ) (v2 v5 v9 : BitVec 32)
    (k4 : k0_cond4 i = 1#1) (Y : Vec F S1024x256 .f32) {Q : FVec F S512x256 .f32 → sProp 𝕄} :
    iprop(invs Og Wg K ∗ levAts L lv ∗ owes (c : Thread nD τ) (owedR c u) W ∗ cred (tallyAt (recvCell c (t - 1)) (t - 1) N)
        ∗ atPos ER (recvCell c (t - 1)) ((t - 1) / 4) ∅ 0
        ∗ owns (c : Thread nD τ) (stageS (t - 1)) fullShare (kept Og Wg c (t - 1)) ∗ owns (c : Thread nD τ) a3 fullShare Y)
      ⊢ (iprop(((∃ W, owes (c : Thread nD τ) (owedR c u) W) ∗ atPos ER (recvCell c (t - 1)) ((t - 1) / 4 + 1) ∅ 0
            ∗ reached ER (recvCell c (t - 1)) ((t - 1) / 4 + 1)
            ∗ owns (c : Thread nD τ) (recvS (t - 1)) fullShare (sent Og Wg (pr c) (t - 1)) ∗ nextRight (pr c) (t - 1)
            ∗ owns (c : Thread nD τ) (stageS (t - 1)) fullShare (kept Og Wg c (t - 1))
            ∗ owns (c : Thread nD τ) a3 fullShare (VecWindow.put (s := S1024x256) Y ![0, 0] S512x256.size
                (k0_pay9 (tile (kept Og Wg c (t - 1)) 0) (tile (sent Og Wg (pr c) (t - 1)) 0)))
            -∗ Q (k0_pay9 (tile (kept Og Wg c (t - 1)) 1) (tile (sent Og Wg (pr c) (t - 1)) 1)))
        -∗ wp frame (wpE (defs₀ (F := F)) 𝒱₀ (c : Thread nD τ) none) Set.univ
            (k0_part3 i a1 h1 a2 h2 a3 h3 A4 h4 A5 h5 A6 h6 A7 h7 cc0_scratch4 cc0_scratch5 (BitVec.ofNat 32 (i 0).val) v2 v5 v9 k4) Q) : sProp 𝕄) := by
  have e15 : k0_off15 i = ![(t - 1) % 2, 512 * (0 : Fin 2).val, 0] := by rw [off15_eq i (by omega), hi]; rfl
  have e16 : k0_off16 i = ![(t - 1) % 4, 512 * (0 : Fin 2).val, 0] := by rw [off16_eq i (by omega), hi]; rfl
  have e17 : k0_off17 i = ![(t - 1) % 2, 512 * (1 : Fin 2).val, 0] := by rw [off17_eq i (by omega), hi]; rfl
  have e18 : k0_off18 i = ![(t - 1) % 4, 512 * (1 : Fin 2).val, 0] := by rw [off18_eq i (by omega), hi]; rfl
  iintro ⟨#HI, #Hlev, HO, Hc, Hat, HT, H3⟩ Hk
  simp only [k0_part3_eq_skeleton]
  unfold k0_part3_skel
  simp only [Prog.lift, Prog.bind_op, Prog.bind_ret, Prog.pure_eq_ret]
  iapply (wait_recv_step Og Wg K c (t - 1) u (by omega) hu W (sem_recv_at (t - 1) (by rw [off12_eq i (by omega), hi]) _) (credit_recv _ _)) $$ [Hc Hat HO]
  · isplitr; · iexact HI
    isplitl [Hc]; · iexact Hc
    isplitl [Hat]; · iexact Hat
    isplitr; · iexact Hlev
    iexact HO
  iintro ⟨HO, Hat, Hr, HV, HN⟩
  iapply (load_slot 𝒱₀ (c : Thread nD τ) none Set.univ ![0, 512 * (0 : Fin 2).val, 0] (in_slot e15) (inbTile 0)) $$ HT
  iintro HT
  iapply (load_slot 𝒱₀ (c : Thread nD τ) none Set.univ ![0, 512 * (0 : Fin 2).val, 0] (in_slot e16) (inbTile 0)) $$ HV
  iintro HV
  iapply (load_owns 𝒱₀ (c : Thread nD τ) none Set.univ) $$ H3
  iintro H3
  iapply (store_owns 𝒱₀ (c : Thread nD τ) none Set.univ) $$ H3
  iintro H3
  iapply (load_slot 𝒱₀ (c : Thread nD τ) none Set.univ ![0, 512 * (1 : Fin 2).val, 0] (in_slot e17) (inbTile 1)) $$ HT
  iintro HT
  iapply (load_slot 𝒱₀ (c : Thread nD τ) none Set.univ ![0, 512 * (1 : Fin 2).val, 0] (in_slot e18) (inbTile 1)) $$ HV
  iintro HV
  rw [pay10_eq, wp_ret, tile_at, tile_at, tile_at, tile_at]
  imodintro
  iapply Hk
  isplitl [HO]; · iexact HO
  isplitl [Hat]; · iexact Hat
  isplitl [Hr]; · iexact Hr
  isplitl [HV]; · iexact HV
  isplitl [HN]; · iexact HN
  isplitl [HT]; · iexact HT
  iexact H3

end Cert.KernelIdeal.Own

end
-- ==== Proof.Phase.lean ====
/-
  What a core holds between two grid points, and how a whole point takes one such state to the next.
-/
module

public import proofs.«01_k».proof.Proof.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

local notation "𝕄" => MT nD τ sig ℕ (Elt F) ℕ UU ℕ

theorem cond5_iff : ∀ i : grid0.Coords,
    Scalar.cmpi .ne (Scalar.extui (Scalar.cmpi .eq (BitVec.ofNat 32 (i 0).val) 32#32)) 0#32 = 1#1 ↔ (i 0).val = 32 := by decide +kernel

/-! ## The parts of the state -/

section State

variable (c : Dev nD)

/-- The place at which `c` waits for chunk `i`. -/
def posR (i : ℕ) : sProp 𝕄 := atPos ER (recvCell c i) (i / 4) ∅ 0
/-- The four receive slots' places, the next chunk to wait for being `v`. -/
def posRs (v : ℕ) : sProp 𝕄 := iprop(posR c v ∗ posR c (v + 1) ∗ posR c (v + 2) ∗ posR c (v + 3))
/-- The rights to pay for the copies of the chunks from `t` on. -/
def toks (t : ℕ) : sProp 𝕄 :=
  bigSep (Finset.Ico t 32) fun i => iprop(dutyTok ER (sendCell c i) (i / 2) () ∗ dutyTok ER (recvCell (pr c) i) (i / 4) ())
/-- What the partner owes of the chunks from `v` on. -/
def creds (v : ℕ) : sProp 𝕄 := bigSep (Finset.Ico v 32) fun i => cred (tallyAt (recvCell c i) i N)
/-- The receive slots of its own that `c` holds before point `t`, each with the right to send there. -/
def own (t : ℕ) : sProp 𝕄 :=
  iprop(right c (t + 2) ∗ (if 31 ≤ t then right c (t + 1) else iprop(emp)) ∗ (if 32 ≤ t then right c t else iprop(emp)))
/-- The same inside a point, one of them given away. -/
def own' (t : ℕ) : sProp 𝕄 :=
  iprop((if 31 ≤ t + 1 then right c (t + 1 + 1) else iprop(emp)) ∗ (if 32 ≤ t + 1 then right c (t + 1) else iprop(emp)))
/-- The right to send chunk `t`. -/
def peer (t : ℕ) : sProp 𝕄 := if t < 32 then right (pr c) t else iprop(emp)
/-- The block of the second operand, at contents not chosen. -/
def wbf : sProp 𝕄 := iprop(∃ X, owns (c : Thread nD τ) A7 fullShare X)

def common (t : ℕ) : sProp 𝕄 :=
  iprop(sendSt c t ∗ sendSt c (t + 1) ∗ wbf c ∗ toks c t ∗ creds c (t - 1) ∗ posRs c (t - 1))

/-- Before the first point. -/
def start : sProp 𝕄 :=
  iprop((reached ER (barCell (pr c)) 0 ∗ dutyTok ER (barCell (pr c)) 0 () ∗ cred (tallyAt (barCell c) 0 1) ∗ atPos ER (barCell c) 0 ∅ 0)
    ∗ (right c 0 ∗ right c 1) ∗ own c 0 ∗ right c 3 ∗ (free c (stageS 0) ∗ free c (stageS 1)) ∗ common c 0)

variable (Og : Dev nD → Vec F S2048x4096 .bf16) (Wg : Dev nD → ℕ → Vec F S4096x256 .bf16)

/-- Before point `t`, the first one past. -/
def mid (t : ℕ) : sProp 𝕄 :=
  iprop(atPos ER (barCell c) 1 ∅ 0 ∗ own c t ∗ peer c t ∗ owns (c : Thread nD τ) (stageS (t - 1)) fullShare (kept Og Wg c (t - 1))
    ∗ free c (stageS t) ∗ common c t)

/-- After the last point: every counter at zero, every slot free. -/
def done : sProp 𝕄 :=
  iprop(semVal (barCell c) 0 ∗ (semVal (sendCell c 32) 0 ∗ semVal (sendCell c 33) 0)
    ∗ (semVal (recvCell c 32) 0 ∗ semVal (recvCell c 33) 0 ∗ semVal (recvCell c 34) 0 ∗ semVal (recvCell c 35) 0)
    ∗ (free c (sendS 32) ∗ free c (sendS 33)) ∗ (free c (recvS 32) ∗ free c (recvS 33) ∗ free c (recvS 34) ∗ free c (recvS 35))
    ∗ (free c (stageS 32) ∗ free c (stageS 33)) ∗ wbf c)

end State

theorem sendCell_congr (c : Dev nD) {i j : ℕ} (h : i % 2 = j % 2) : sendCell c i = sendCell c j := by
  unfold sendCell; rw [sendSem_congr h]
theorem recvCell_congr (c : Dev nD) {i j : ℕ} (h : i % 4 = j % 4) : recvCell c i = recvCell c j := by
  unfold recvCell; rw [recvSem_congr h]

theorem Ico_pop (t : ℕ) (h : t < 32) (Φ : ℕ → sProp 𝕄) : bigSep (Finset.Ico t 32) Φ = iprop(Φ t ∗ bigSep (Finset.Ico (t + 1) 32) Φ) := by
  rw [show Finset.Ico t 32 = insert t (Finset.Ico (t + 1) 32) from Finset.ext fun x => by
    simp only [Finset.mem_Ico, Finset.mem_insert]; omega, bigSep_insert (by simp)]; rfl
theorem toks_pop (c : Dev nD) (t : ℕ) (h : t < 32) : (toks c t : sProp 𝕄)
    = iprop((dutyTok ER (sendCell c t) (t / 2) () ∗ dutyTok ER (recvCell (pr c) t) (t / 4) ()) ∗ toks c (t + 1)) := Ico_pop t h _
theorem creds_pop (c : Dev nD) (t : ℕ) (h : t < 32) : (creds c t : sProp 𝕄)
    = iprop(cred (tallyAt (recvCell c t) t N) ∗ creds c (t + 1)) := Ico_pop t h _

theorem own_give (c : Dev nD) (t : ℕ) (h : t < 32) : (own c t : sProp 𝕄) ⊢ iprop(nextRight c t ∗ own' c t) := by
  unfold own own' nextRight
  rw [if_neg (by omega : ¬ 32 ≤ t)]
  by_cases h1 : t + 2 < 32
  · rw [if_pos h1, if_neg (by omega), if_neg (by omega), if_neg (by omega)]
  · rw [if_neg h1, if_pos (by omega : 31 ≤ t + 1)]
    by_cases h2 : 31 ≤ t
    · rw [if_pos h2, if_pos (by omega)]
      iintro ⟨H, H', -⟩
      isplitr; · iempintro
      isplitl [H]; · iexact H
      iexact H'
    · rw [if_neg h2, if_neg (by omega)]
      iintro ⟨H, -⟩
      isplitr; · iempintro
      isplitl [H]; · iexact H
      iempintro
theorem own_next (c : Dev nD) (t : ℕ) : iprop(right c (t + 3) ∗ own' c t) ⊢ (own c (t + 1) : sProp 𝕄) := by
  unfold own own'
  exact Entails.refl _
theorem peer_lt (c : Dev nD) (t : ℕ) (h : t < 32) : (peer c t : sProp 𝕄) = right (pr c) t := if_pos h
theorem peer_next (c : Dev nD) (t : ℕ) (h : 0 < t) : (nextRight (pr c) (t - 1) : sProp 𝕄) = peer c (t + 1) := by
  unfold nextRight peer
  rw [show t - 1 + 2 = t + 1 by omega]

theorem right_next (c : Dev nD) (v : ℕ) (X : Vec F S1x1024x256 .bf16) :
    iprop(owns (c : Thread nD τ) (recvS v) fullShare X ∗ reached ER (recvCell c v) (v / 4 + 1)) ⊢ (right c (v + 4) : sProp 𝕄) := by
  unfold right free
  rw [recvS_congr (show v % 4 = (v + 4) % 4 by omega), recvCell_congr c (show v % 4 = (v + 4) % 4 by omega), show v / 4 + 1 = (v + 4) / 4 by omega]
  iintro ⟨H, Hr⟩
  isplitl [H]; · iexists X; iexact H
  iexact Hr
theorem posRs_eq (c : Dev nD) (v : ℕ) : (posRs c v : sProp 𝕄)
    = iprop(atPos ER (recvCell c v) (v / 4) ∅ 0 ∗ posR c (v + 1) ∗ posR c (v + 2) ∗ posR c (v + 3)) := rfl
theorem posRs_next (c : Dev nD) (v : ℕ) : iprop(atPos ER (recvCell c v) (v / 4 + 1) ∅ 0 ∗ posR c (v + 1) ∗ posR c (v + 2) ∗ posR c (v + 3))
    ⊢ (posRs c (v + 1) : sProp 𝕄) := by
  unfold posRs
  rw [show (posR c (v + 1 + 3) : sProp 𝕄) = atPos ER (recvCell c v) (v / 4 + 1) ∅ 0 from by
    unfold posR
    rw [recvCell_congr c (show (v + 1 + 3) % 4 = v % 4 by omega), show (v + 1 + 3) / 4 = v / 4 + 1 by omega]]
  iintro ⟨H0, H1, H2, H3⟩
  isplitl [H1]; · iexact H1
  isplitl [H2]; · iexact H2
  isplitl [H3]; · iexact H3
  iexact H0
theorem sendSt_next (c : Dev nD) (t : ℕ) :
    iprop(atPos ER (sendCell c t) (t / 2) ∅ 0 ∗ reached ER (sendCell c t) (t / 2) ∗ cred (tallyAt (sendCell c t) 0 N)) ⊢ (sendSt c (t + 1 + 1) : sProp 𝕄) := by
  unfold sendSt
  rw [if_neg (by omega : ¬ t + 1 + 1 < 2), sendCell_congr c (show (t + 1 + 1) % 2 = t % 2 by omega), show (t + 1 + 1) / 2 - 1 = t / 2 by omega]

section Finish

variable (Og : Dev nD → Vec F S2048x4096 .bf16) (Wg : Dev nD → ℕ → Vec F S4096x256 .bf16) (K : GSem nD τ sig → ℕ) (c : Dev nD)

theorem rounds_bar : rounds (barCell c) = 1 := rfl
theorem close_send (i : ℕ) : iprop(invs Og Wg K ∗ atPos ER (sendCell c i) 16 ∅ 0) ⊢ (|={Set.univ}=> semVal (sendCell c i) 0 : sProp 𝕄) :=
  (sep_mono_left (inv_send Og Wg K c i)).trans (close Og Wg (K (sendCell c i)) (sendCell c i) 16 (rounds_send c i).le)
theorem close_recv (i : ℕ) : iprop(invs Og Wg K ∗ atPos ER (recvCell c i) 8 ∅ 0) ⊢ (|={Set.univ}=> semVal (recvCell c i) 0 : sProp 𝕄) :=
  (sep_mono_left (inv_recv Og Wg K c i)).trans (close Og Wg (K (recvCell c i)) (recvCell c i) 8 (rounds_recv c i).le)
theorem close_bar : iprop(invs Og Wg K ∗ atPos ER (barCell c) 1 ∅ 0) ⊢ (|={Set.univ}=> semVal (barCell c) 0 : sProp 𝕄) :=
  (sep_mono_left (inv_bar Og Wg K c)).trans (close Og Wg (K (barCell c)) (barCell c) 1 (rounds_bar c).le)

/-- Every cell is past its last round, so all are closed; the rights held are dropped and the slots kept. -/
theorem finish : iprop(invs Og Wg K ∗ atPos ER (barCell c) 1 ∅ 0 ∗ own c 32 ∗ right c 35 ∗ free c (stageS 32) ∗ free c (stageS 33) ∗ wbf c
        ∗ posRs c 32 ∗ atPos ER (sendCell c 32) 16 ∅ 0 ∗ atPos ER (sendCell c 33) 16 ∅ 0 ∗ free c (sendS 32) ∗ free c (sendS 33))
      ⊢ (|={Set.univ}=> done c : sProp 𝕄) := by
  unfold own posRs posR
  rw [if_pos (by omega : 31 ≤ 32), if_pos (by omega : 32 ≤ 32)]
  unfold right
  iintro ⟨#HI, Hbar, ⟨⟨HR2, -⟩, ⟨HR1, -⟩, ⟨HR0, -⟩⟩, ⟨HR3, -⟩, HF0, HF1, H7, ⟨HP0, HP1, HP2, HP3⟩, HA0, HA1, HS0, HS1⟩
  imod (close_bar Og Wg K c) $$ [Hbar] with HB
  · isplitr; · iexact HI
    iexact Hbar
  imod (close_send Og Wg K c 32) $$ [HA0] with HA0
  · isplitr; · iexact HI
    iexact HA0
  imod (close_send Og Wg K c 33) $$ [HA1] with HA1
  · isplitr; · iexact HI
    iexact HA1
  imod (close_recv Og Wg K c 32) $$ [HP0] with HP0
  · isplitr; · iexact HI
    iexact HP0
  imod (close_recv Og Wg K c 33) $$ [HP1] with HP1
  · isplitr; · iexact HI
    iexact HP1
  imod (close_recv Og Wg K c 34) $$ [HP2] with HP2
  · isplitr; · iexact HI
    iexact HP2
  imod (close_recv Og Wg K c 35) $$ [HP3] with HP3
  · isplitr; · iexact HI
    iexact HP3
  imodintro
  unfold done
  isplitl [HB]; · iexact HB
  isplitl [HA0 HA1]
  · isplitl [HA0]; · iexact HA0
    iexact HA1
  isplitl [HP0 HP1 HP2 HP3]
  · isplitl [HP0]; · iexact HP0
    isplitl [HP1]; · iexact HP1
    isplitl [HP2]; · iexact HP2
    iexact HP3
  isplitl [HS0 HS1]
  · isplitl [HS0]; · iexact HS0
    iexact HS1
  isplitl [HR0 HR1 HR2 HR3]
  · isplitl [HR0]; · iexact HR0
    isplitl [HR1]; · iexact HR1
    isplitl [HR2]; · iexact HR2
    iexact HR3
  isplitl [HF0 HF1]
  · isplitl [HF0]; · iexact HF0
    iexact HF1
  iexact H7

end Finish

section Run

variable (Og : Dev nD → Vec F S2048x4096 .bf16) (Wg : Dev nD → ℕ → Vec F S4096x256 .bf16) (K : GSem nD τ sig → ℕ) (c : Dev nD)
variable {i : grid0.Coords} {t : ℕ} (hi : (i 0).val = t)
  {a1 : Memref sig .tc .vmem S2048x4096 .bf16} {h1 : a1.IsWhole} {a2 : Memref sig .tc .vmem S4096x256 .bf16} {h2 : a2.IsWhole}
  {a3 : Memref sig .tc .vmem S1024x256 .f32} {h3 : a3.IsWhole} {h4 : A4.IsWhole} {h5 : A5.IsWhole} {h6 : A6.IsWhole} {h7 : A7.IsWhole}
  {q1 q2 : PosShare TreeShare}

include hi

set_option maxRecDepth 65536 in
/-- The whole of the first branch: chunk `t` is computed and sent, and the other half of its rows kept. -/
theorem produce_run (ht : t < 32) (W : Waits sig ℕ) (v2 v5 v8 v9 v10 : BitVec 32) (k2 k2' : k0_cond2 i = 1#1)
    {inb7 : ∀ a, (![0, 0] : Fin 2 → ℕ) a + (![4096, 256] : Fin 2 → ℕ) a ≤ S4096x256.size a}
    {inb6 : ∀ a, k0_off6 i a + (![1, 512, 256] : Fin 3 → ℕ) a ≤ S2x1024x256.size a}
    {hl7 : A7.view.LoadsAt (Rect.unit (s := S4096x256) ![0, 0] ![4096, 256] inb7).toLoadRect}
    {hl6 : A6.view.LoadsAt (Rect.unit (s := S2x1024x256) (k0_off6 i) ![1, 512, 256] inb6).toLoadRect}
    {hx : (A6.access (Rect.unit (s := S2x1024x256) (k0_off6 i) ![1, 512, 256] inb6)).Stores Finset.univ}
    {hm : Finset.univ = Finset.univ ∨ ∀ a, (Rect.unit (s := S2x1024x256) (k0_off6 i) ![1, 512, 256] inb6).stride a = 1}
    {α : Type} {Q : α → sProp 𝕄} {k : PUnit → Prog (TpuEff nD τ sig (Elt F) Λ₀ .tc) α} :
    iprop(invs Og Wg K ∗ levAts L lv ∗ owes (c : Thread nD τ) (owedR c t) W ∗ owns (c : Thread nD τ) a1 q1 (Og c)
        ∗ owns (c : Thread nD τ) a2 q2 (Wg c t) ∗ wbf c ∗ sendSt c t
        ∗ right (pr c) t ∗ nextRight c t ∗ (dutyTok ER (sendCell c t) (t / 2) () ∗ dutyTok ER (recvCell (pr c) t) (t / 4) ()) ∗ free c (stageS t))
      ⊢ (iprop(((∃ W, owes (c : Thread nD τ) (owedR c (t + 1)) W) ∗ owns (c : Thread nD τ) a1 q1 (Og c)
            ∗ owns (c : Thread nD τ) a2 q2 (Wg c t) ∗ wbf c ∗ sendSt c (t + 1 + 1)
            ∗ owns (c : Thread nD τ) (stageS t) fullShare (kept Og Wg c t)
            -∗ wp frame (wpE (defs₀ (F := F)) 𝒱₀ (c : Thread nD τ) none) Set.univ (k ⟨⟩) Q)
        -∗ wp frame (wpE (defs₀ (F := F)) 𝒱₀ (c : Thread nD τ) none) Set.univ
            (k0_part1 i a1 h1 a2 h2 a3 h3 A4 h4 A5 h5 A6 h6 A7 h7 cc0_scratch4 cc0_scratch5 (BitVec.ofNat 32 (i 0).val) c v9 v10 k2 >>= fun v55 =>
              k0_part2 i a1 h1 a2 h2 a3 h3 A4 h4 A5 h5 A6 h6 A7 h7 cc0_scratch4 cc0_scratch5 c v2 v5 v8 v9 v10 k2' v55 >>= fun v91 =>
              .op (.load A7 (Rect.unit (s := S4096x256) ![0, 0] ![4096, 256] inb7).toLoadRect hl7) fun v92 =>
              .op (.load A6 (Rect.unit (s := S2x1024x256) (k0_off6 i) ![1, 512, 256] inb6).toLoadRect hl6) fun _ =>
              .op (.store A6 (Rect.unit (s := S2x1024x256) (k0_off6 i) ![1, 512, 256] inb6) (k0_pay1 v91 v92) Finset.univ hx hm) k) Q) : sProp 𝕄) := by
  have e6 : k0_off6 i = ![t % 2, 512, 0] := by rw [k0_off6_eq, hi]
  unfold wbf
  iintro ⟨#HI, #Hlev, HO, H1, H2, H7, HS, HR, HN, ⟨HtS, HtR⟩, HT⟩ Hk
  rw [wp_bind]
  iapply (part1_run Og Wg K c hi ht (Og c) (Wg c t) W v9 v10 k2) $$ [HO H1 H2 H7 HS]
  · isplitr; · iexact HI
    isplitr; · iexact Hlev
    isplitl [HO]; · iexact HO
    isplitl [H1]; · iexact H1
    isplitl [H2]; · iexact H2
    isplitl [H7]; · iexact H7
    iexact HS
  iintro ⟨⟨%W₁, HO⟩, H1, H2, H7, Hat, #Hr, HS⟩
  rw [wp_bind]
  iapply (part2_run Og Wg K c hi ht W₁ v2 v5 v8 v9 v10 k2') $$ [HO H1 H7 HS HR HN HtS HtR HT]
  · isplitr; · iexact HI
    isplitl [HO]; · iexact HO
    isplitl [H1]; · iexact H1
    isplitl [H7]; · iexact H7
    isplitl [HS]; · iexact HS
    isplitl [HR]; · iexact HR
    isplitl [HN]; · iexact HN
    isplitl [HtS]; · iexact HtS
    isplitr; · iexact Hr
    isplitl [HtR]; · iexact HtR
    iexact HT
  iintro ⟨HO, H1, H7, Hc, ⟨%X, HT⟩⟩
  iapply (load_owns 𝒱₀ (c : Thread nD τ) none Set.univ) $$ H7
  iintro H7
  iapply (load_slot 𝒱₀ (c : Thread nD τ) none Set.univ ![0, 512, 0] (in_slot e6) (inbTile 1)) $$ HT
  iintro HT
  iapply (store_slot 𝒱₀ (c : Thread nD τ) none Set.univ ![0, 512, 0] (in_slot e6) (inbTile 1)) $$ HT
  iintro HT
  rw [window_full, pay1_pay8]
  ihave HT := (Entails.of_eq (congrArg (fun X => owns (c : Thread nD τ) (stageS t) fullShare X)
    (two_of_puts X (k0_pay4 (rowTile (Og c) (half c) 0) (Wg c t)) (k0_pay4 (rowTile (Og c) (half c) 1) (Wg c t))))) $$ HT
  iapply Hk
  isplitl [HO]; · iexact HO
  isplitl [H1]; · iexact H1
  isplitl [H2]; · iexact H2
  isplitl [H7]; · iexists _; iexact H7
  isplitl [Hat Hc]
  · iapply (sendSt_next c t)
    isplitl [Hat]; · iexact Hat
    isplitr; · iexact Hr
    iexact Hc
  unfold kept prod
  iexact HT

set_option maxRecDepth 65536 in
/-- The whole of the second branch: chunk `t - 1` is waited for, added to what was kept of it, and stored. -/
theorem collect_run (ht : 0 < t) (ht' : t ≤ 32) (u : ℕ) (hu : t - 1 < u) (W : Waits sig ℕ) (v2 v5 v9 : BitVec 32)
    (k4 : k0_cond4 i = 1#1) (Y : Vec F S1024x256 .f32)
    {inb : ∀ a, (![512, 0] : Fin 2 → ℕ) a + (![512, 256] : Fin 2 → ℕ) a ≤ S1024x256.size a}
    {hl : a3.view.LoadsAt (Rect.unit (s := S1024x256) ![512, 0] ![512, 256] inb).toLoadRect}
    {hx : (a3.access (Rect.unit (s := S1024x256) ![512, 0] ![512, 256] inb)).Stores Finset.univ}
    {hm : Finset.univ = Finset.univ ∨ ∀ a, (Rect.unit (s := S1024x256) ![512, 0] ![512, 256] inb).stride a = 1}
    {α : Type} {Q : α → sProp 𝕄} {k : PUnit → Prog (TpuEff nD τ sig (Elt F) Λ₀ .tc) α} :
    iprop(invs Og Wg K ∗ levAts L lv ∗ owes (c : Thread nD τ) (owedR c u) W ∗ cred (tallyAt (recvCell c (t - 1)) (t - 1) N)
        ∗ posRs c (t - 1) ∗ owns (c : Thread nD τ) (stageS (t - 1)) fullShare (kept Og Wg c (t - 1)) ∗ owns (c : Thread nD τ) a3 fullShare Y)
      ⊢ (iprop(((∃ W, owes (c : Thread nD τ) (owedR c u) W) ∗ posRs c t ∗ right c (t + 3) ∗ peer c (t + 1)
            ∗ free c (stageS (t + 1)) ∗ owns (c : Thread nD τ) a3 fullShare (outV Og Wg c (t - 1))
            -∗ wp frame (wpE (defs₀ (F := F)) 𝒱₀ (c : Thread nD τ) none) Set.univ (k ⟨⟩) Q)
        -∗ wp frame (wpE (defs₀ (F := F)) 𝒱₀ (c : Thread nD τ) none) Set.univ
            (k0_part3 i a1 h1 a2 h2 a3 h3 A4 h4 A5 h5 A6 h6 A7 h7 cc0_scratch4 cc0_scratch5 (BitVec.ofNat 32 (i 0).val) v2 v5 v9 k4 >>= fun v58 =>
              .op (.load a3 (Rect.unit (s := S1024x256) ![512, 0] ![512, 256] inb).toLoadRect hl) fun _ =>
              .op (.store a3 (Rect.unit (s := S1024x256) ![512, 0] ![512, 256] inb) v58 Finset.univ hx hm) k) Q) : sProp 𝕄) := by
  obtain ⟨v, rfl⟩ : ∃ v, t = v + 1 := ⟨t - 1, by omega⟩
  rw [Nat.add_sub_cancel]
  rw [← peer_next c (v + 1) (by omega), Nat.add_sub_cancel]
  rw [posRs_eq c v]
  iintro ⟨#HI, #Hlev, HO, Hc, ⟨Hat, HP⟩, HT, H3⟩ Hk
  rw [wp_bind]
  have run := part3_run Og Wg K c hi ht ht' u hu W v2 v5 v9 k4 Y (h1 := h1) (h2 := h2) (h3 := h3) (h4 := h4) (h5 := h5) (h6 := h6) (h7 := h7)
    (Q := fun v58 => wp frame (wpE (defs₀ (F := F)) 𝒱₀ (c : Thread nD τ) none) Set.univ
      (.op (.load a3 (Rect.unit (s := S1024x256) ![512, 0] ![512, 256] inb).toLoadRect hl) fun _ =>
              .op (.store a3 (Rect.unit (s := S1024x256) ![512, 0] ![512, 256] inb) v58 Finset.univ hx hm) k) Q)
  simp only [Nat.add_sub_cancel] at run
  iapply run $$ [HO Hc Hat HT H3]
  · isplitr; · iexact HI
    isplitr; · iexact Hlev
    isplitl [HO]; · iexact HO
    isplitl [Hc]; · iexact Hc
    isplitl [Hat]; · iexact Hat
    isplitl [HT]; · iexact HT
    iexact H3
  iintro ⟨HO, Hat, #Hr, HV, HN, HT, H3⟩
  iapply (load_owns 𝒱₀ (c : Thread nD τ) none Set.univ) $$ H3
  iintro H3
  iapply (store_owns 𝒱₀ (c : Thread nD τ) none Set.univ) $$ H3
  iintro H3
  ihave H3 := (Entails.of_eq (congrArg (fun X => owns (c : Thread nD τ) a3 fullShare X)
    (two₂_of_puts Y (k0_pay9 (tile (kept Og Wg c v) 0) (tile (sent Og Wg (pr c) v) 0)) (k0_pay9 (tile (kept Og Wg c v) 1) (tile (sent Og Wg (pr c) v) 1))))) $$ H3
  iapply Hk
  isplitl [HO]; · iexact HO
  isplitl [Hat HP]
  · iapply (posRs_next c v)
    isplitl [Hat]; · iexact Hat
    iexact HP
  isplitl [HV]
  · iapply (right_next c v)
    isplitl [HV]; · iexact HV
    iexact Hr
  isplitl [HN]; · iexact HN
  isplitl [HT]
  · unfold free
    rw [stageS_congr (show (v + 1 + 1) % 2 = v % 2 by omega)]
    iexists _
    iexact HT
  unfold outV
  iexact H3

set_option maxRecDepth 65536 in
theorem mid_run (ht : 0 < t) (ht' : t < 32) (W : Waits sig ℕ) (Y : Vec F S1024x256 .f32) {Q : PUnit → sProp 𝕄} :
    iprop(invs Og Wg K ∗ levAts L lv ∗ owes (c : Thread nD τ) (owedR c t) W ∗ owns (c : Thread nD τ) a1 q1 (Og c)
        ∗ owns (c : Thread nD τ) a2 q2 (Wg c t) ∗ owns (c : Thread nD τ) a3 fullShare Y ∗ mid c Og Wg t)
      ⊢ (iprop(((∃ W, owes (c : Thread nD τ) (owedR c (t + 1)) W) ∗ owns (c : Thread nD τ) a1 q1 (Og c)
        ∗ owns (c : Thread nD τ) a2 q2 (Wg c t) ∗ owns (c : Thread nD τ) a3 fullShare (outV Og Wg c (t - 1)) ∗ mid c Og Wg (t + 1) -∗ Q ⟨⟩)
        -∗ wp frame (wpE (defs₀ (F := F)) 𝒱₀ (c : Thread nD τ) none) Set.univ
            (cc0_body i a1 h1 a2 h2 a3 h3 A4 h4 A5 h5 A6 h6 A7 h7 cc0_scratch4 cc0_scratch5) Q) : sProp 𝕄) := by
  have k1 : ¬ k0_cond1 i = 1#1 := fun h => by have := (cond1_iff i).mp h; omega
  have k2 : k0_cond2 i = 1#1 := (cond2_iff i).mpr (by omega)
  have k4 : k0_cond4 i = 1#1 := (cond4_iff i).mpr (by omega)
  have k5 := mt (cond5_iff i).mp (by omega : ¬ (i 0).val = 32)
  unfold mid common
  rw [toks_pop c t ht', peer_lt c t ht', creds_pop c (t - 1) (by omega), show t - 1 + 1 = t by omega]
  iintro ⟨#HI, #Hlev, HO, H1, H2, H3, Hbar, Hown, Hpeer, HT, HF, HS0, HS1, H7, ⟨Htok, Htoks⟩, ⟨Hc, Hcs⟩, HP⟩ Hk
  ihave Hown := (own_give c t ht') $$ Hown
  icases Hown with ⟨HN, Hown⟩
  simp only [cc0_body_eq_skeleton]
  unfold cc0_body_skel
  simp only [dif_neg k1, dif_pos k2, dif_pos k4, dif_neg k5, Prog.lift, Prog.bind_op, Prog.bind_ret, Prog.pure_eq_ret, wp_deviceId]
  iapply (produce_run Og Wg K c hi ht' W) $$ [HO H1 H2 H7 HS0 Hpeer HN Htok HF]
  · isplitr; · iexact HI
    isplitr; · iexact Hlev
    isplitl [HO]; · iexact HO
    isplitl [H1]; · iexact H1
    isplitl [H2]; · iexact H2
    isplitl [H7]; · iexact H7
    isplitl [HS0]; · iexact HS0
    isplitl [Hpeer]; · iexact Hpeer
    isplitl [HN]; · iexact HN
    isplitl [Htok]; · iexact Htok
    iexact HF
  iintro ⟨⟨%W₁, HO⟩, H1, H2, H7, HS, HK⟩
  iapply (collect_run Og Wg K c hi ht (by omega) (t + 1) (by omega) W₁) $$ [HO Hc HP HT H3]
  · isplitr; · iexact HI
    isplitr; · iexact Hlev
    isplitl [HO]; · iexact HO
    isplitl [Hc]; · iexact Hc
    isplitl [HP]; · iexact HP
    isplitl [HT]; · iexact HT
    iexact H3
  iintro ⟨HO, HP, HR, Hpeer, HF, H3⟩
  rw [wp_ret]
  imodintro
  iapply Hk
  isplitl [HO]; · iexact HO
  isplitl [H1]; · iexact H1
  isplitl [H2]; · iexact H2
  isplitl [H3]; · iexact H3
  rw [Nat.add_sub_cancel]
  isplitl [Hbar]; · iexact Hbar
  isplitl [Hown HR]
  · iapply (own_next c t)
    isplitl [HR]; · iexact HR
    iexact Hown
  isplitl [Hpeer]; · iexact Hpeer
  isplitl [HK]; · iexact HK
  isplitl [HF]; · iexact HF
  isplitl [HS1]; · iexact HS1
  isplitl [HS]; · iexact HS
  isplitl [H7]; · iexact H7
  isplitl [Htoks]; · iexact Htoks
  isplitl [Hcs]; · iexact Hcs
  iexact HP

omit hi in
set_option maxRecDepth 65536 in
/-- The first point: the two cores of a pair meet, and the first chunk is sent. -/
theorem first_run (hi : (i 0).val = 0) (W : Waits sig ℕ) {Q : PUnit → sProp 𝕄} :
    iprop(invs Og Wg K ∗ levAts L lv ∗ owes (c : Thread nD τ) (owedAt c 0) W ∗ owns (c : Thread nD τ) a1 q1 (Og c)
        ∗ owns (c : Thread nD τ) a2 q2 (Wg c 0) ∗ start c)
      ⊢ (iprop(((∃ W, owes (c : Thread nD τ) (owedR c 1) W) ∗ owns (c : Thread nD τ) a1 q1 (Og c)
        ∗ owns (c : Thread nD τ) a2 q2 (Wg c 0) ∗ mid c Og Wg 1 -∗ Q ⟨⟩)
        -∗ wp frame (wpE (defs₀ (F := F)) 𝒱₀ (c : Thread nD τ) none) Set.univ
            (cc0_body i a1 h1 a2 h2 a3 h3 A4 h4 A5 h5 A6 h6 A7 h7 cc0_scratch4 cc0_scratch5) Q) : sProp 𝕄) := by
  have k1 : k0_cond1 i = 1#1 := (cond1_iff i).mpr hi
  have k2 : k0_cond2 i = 1#1 := (cond2_iff i).mpr (by omega)
  have k4 : ¬ k0_cond4 i = 1#1 := mt (cond4_iff i).mp (by omega)
  have k5 := mt (cond5_iff i).mp (by omega : ¬ (i 0).val = 32)
  unfold start mid common
  rw [toks_pop c 0 (by omega)]
  iintro ⟨#HI, #Hlev, HO, H1, H2, ⟨#HrP, HtP, HcB, Hbar⟩, HR01, Hown, HR3, ⟨HF0, HF1⟩, HS0, HS1, H7, ⟨Htok, Htoks⟩, Hcs, HP⟩ Hk
  ihave Hown := (own_give c 0 (by omega)) $$ Hown
  icases Hown with ⟨HN, Hown⟩
  simp only [cc0_body_eq_skeleton]
  unfold cc0_body_skel
  simp only [dif_pos k1, dif_pos k2, dif_neg k4, dif_neg k5, semSignalWord, semWaitWord, Prog.lift, Prog.bind_op, Prog.bind_ret, Prog.pure_eq_ret, wp_deviceId]
  iapply (barrier_step Og Wg K c (dev1_pr c _) W) $$ [HO HtP HR01 HcB Hbar]
  · isplitr; · iexact HI
    isplitr; · iexact HrP
    isplitl [HtP]; · iexact HtP
    isplitl [HR01]; · iexact HR01
    isplitl [HcB]; · iexact HcB
    isplitl [Hbar]; · iexact Hbar
    isplitr; · iexact Hlev
    iexact HO
  iintro ⟨⟨%W₁, HO⟩, Hbar, HP0, HP1⟩
  iapply (produce_run Og Wg K c hi (by omega) W₁) $$ [HO H1 H2 H7 HS0 HP0 HN Htok HF0]
  · isplitr; · iexact HI
    isplitr; · iexact Hlev
    isplitl [HO]; · iexact HO
    isplitl [H1]; · iexact H1
    isplitl [H2]; · iexact H2
    isplitl [H7]; · iexact H7
    isplitl [HS0]; · iexact HS0
    isplitl [HP0]; · iexact HP0
    isplitl [HN]; · iexact HN
    isplitl [Htok]; · iexact Htok
    iexact HF0
  iintro ⟨HO, H1, H2, H7, HS, HK⟩
  rw [wp_ret]
  imodintro
  iapply Hk
  isplitl [HO]; · iexact HO
  isplitl [H1]; · iexact H1
  isplitl [H2]; · iexact H2
  isplitl [Hbar]; · iexact Hbar
  isplitl [Hown HR3]
  · iapply (own_next c 0)
    isplitl [HR3]; · iexact HR3
    iexact Hown
  isplitl [HP1]; · iapply (Entails.of_eq (peer_lt c (0 + 1) (by omega)).symm); iexact HP1
  isplitl [HK]; · iexact HK
  isplitl [HF1]; · iexact HF1
  isplitl [HS1]; · iexact HS1
  isplitl [HS]; · iexact HS
  isplitl [H7]; · iexact H7
  isplitl [Htoks]; · iexact Htoks
  isplitl [Hcs]; · iexact Hcs
  iexact HP

omit hi in
set_option maxRecDepth 65536 in
/-- The last point: the last chunk is collected, both send slots are waited for, and every cell is closed. -/
theorem last_run (hi : (i 0).val = 32) (W : Waits sig ℕ) (Y : Vec F S1024x256 .f32) {Q : PUnit → sProp 𝕄} :
    iprop(invs Og Wg K ∗ levAts L lv ∗ owes (c : Thread nD τ) (owedR c 32) W ∗ owns (c : Thread nD τ) a3 fullShare Y ∗ mid c Og Wg 32)
      ⊢ (iprop(((∃ W, owes (c : Thread nD τ) (owedR c 32) W) ∗ owns (c : Thread nD τ) a3 fullShare (outV Og Wg c 31) ∗ done c -∗ Q ⟨⟩)
        -∗ wp frame (wpE (defs₀ (F := F)) 𝒱₀ (c : Thread nD τ) none) Set.univ
            (cc0_body i a1 h1 a2 h2 a3 h3 A4 h4 A5 h5 A6 h6 A7 h7 cc0_scratch4 cc0_scratch5) Q) : sProp 𝕄) := by
  have k1 : ¬ k0_cond1 i = 1#1 := mt (cond1_iff i).mp (by omega)
  have k2 : ¬ k0_cond2 i = 1#1 := mt (cond2_iff i).mp (by omega)
  have k4 : k0_cond4 i = 1#1 := (cond4_iff i).mpr (by omega)
  have k5 := (cond5_iff i).mpr hi
  unfold mid common
  rw [creds_pop c (32 - 1) (by omega)]
  iintro ⟨#HI, #Hlev, HO, H3, Hbar, Hown, -, HT, HF, HS0, HS1, H7, -, ⟨Hc, -⟩, HP⟩ Hk
  simp only [cc0_body_eq_skeleton]
  unfold cc0_body_skel
  simp only [dif_neg k1, dif_neg k2, dif_pos k4, dif_pos k5, Prog.lift, Prog.bind_op, Prog.bind_ret, Prog.pure_eq_ret, wp_deviceId]
  iapply (collect_run Og Wg K c hi (by omega) (by omega) 32 (by omega) W) $$ [HO Hc HP HT H3]
  · isplitr; · iexact HI
    isplitr; · iexact Hlev
    isplitl [HO]; · iexact HO
    isplitl [Hc]; · iexact Hc
    isplitl [HP]; · iexact HP
    isplitl [HT]; · iexact HT
    iexact H3
  iintro ⟨⟨%W₁, HO⟩, HP, HR, -, HF1, H3⟩
  unfold sendSt
  rw [if_neg (by omega : ¬ (32 : ℕ) < 2), if_neg (by omega : ¬ 32 + 1 < 2)]
  icases HS0 with ⟨Hat0, -, HS0⟩
  icases HS1 with ⟨Hat1, -, HS1⟩
  iapply (wait_send_step Og Wg K c 32 (32 / 2 - 1) 32 (by omega) W₁ (sem_send_at 32 rfl _) (credit_send _ _)) $$ [HS0 Hat0 HO]
  · isplitr; · iexact HI
    isplitl [HS0]; · iexact HS0
    isplitl [Hat0]; · iexact Hat0
    isplitr; · iexact Hlev
    iexact HO
  iintro ⟨⟨%W₂, HO⟩, Hat0, -, HS0⟩
  iapply (wait_send_step Og Wg K c (32 + 1) ((32 + 1) / 2 - 1) 32 (by omega) W₂ (sem_send_at 33 rfl _) (credit_send _ _)) $$ [HS1 Hat1 HO]
  · isplitr; · iexact HI
    isplitl [HS1]; · iexact HS1
    isplitl [Hat1]; · iexact Hat1
    isplitr; · iexact Hlev
    iexact HO
  iintro ⟨HO, Hat1, -, HS1⟩
  rw [wp_ret]
  imod (finish Og Wg K c) $$ [Hbar Hown HR HF HF1 H7 HP Hat0 Hat1 HS0 HS1] with HD
  · isplitr; · iexact HI
    isplitl [Hbar]; · iexact Hbar
    isplitl [Hown]; · iexact Hown
    isplitl [HR]; · iexact HR
    isplitl [HF]; · iexact HF
    isplitl [HF1]; · iexact HF1
    isplitl [H7]; · iexact H7
    isplitl [HP]; · iexact HP
    isplitl [Hat0]; · iexact Hat0
    isplitl [Hat1]; · iexact Hat1
    isplitl [HS0]; · iexact HS0
    iexact HS1
  imodintro
  iapply Hk
  isplitl [HO]; · iexact HO
  isplitl [H3]; · iexact H3
  iexact HD

end Run

end Cert.KernelIdeal.Own

end
-- ==== Proof.Points.lean ====
/-
  The proof data of the pipeline and its body obligation: what the arrays hold, what each point leaves, what a core holds
  between points.
-/
module

public import proofs.«01_k».proof.Proof.Phase
public import proofs.«01_k».proof.Proof.Gen.KernelIdeal.Frame
public import Idealize.ShloMosaic.Lib.Pipeline.TalkSched

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen Cert.KernelIdeal.Slots

variable {F : FTy → Type} [FloatOps F]

local notation "𝕄" => MT nD τ sig ℕ (Elt F) ℕ UU ℕ

variable (m : (ℓ : Loc nD τ sig) → Buf (Elt F) ℓ)

/-! ## The operands -/

/-- The first operand on device `c`, whole; it is staged once. -/
def Og (c : Dev nD) : Vec F S2048x4096 .bf16 := iblk m c 0 ⟨0, by decide⟩
/-- Block `j` of the second operand on device `c`. -/
def wblk (c : Dev nD) (t : Fin cfg0.N) : Vec F S4096x256 .bf16 := iblk m c 1 t
def Wg (c : Dev nD) (j : ℕ) : Vec F S4096x256 .bf16 := wblk m c ⟨j % 33, (Nat.mod_lt j (by decide)).trans_le N_0.ge⟩

theorem Og_eq (c : Dev nD) (t : Fin cfg0.N) : iblk m c 0 t = Og m c := rfl
theorem Wg_eq (c : Dev nD) (t : Fin cfg0.N) : iblk m c 1 t = Wg m c t.val :=
  congrArg (wblk m c) (Fin.ext (Nat.mod_eq_of_lt (t.isLt.trans_le N_0.le)).symm : t = ⟨t.val % 33, (Nat.mod_lt _ (by decide)).trans_le N_0.ge⟩)

theorem coord (t : Fin cfg0.N) : (grid0.coords t 0).val = t.val := (by decide +kernel : ∀ t : Fin grid0.N, (grid0.coords t 0).val = t.val) t

/-! ## The proof data -/

/-- What a core holds before point `n`. -/
def phase (c : Dev nD) (n : ℕ) : sProp 𝕄 := if n = 0 then start c else if n ≤ 32 then mid c (Og m) (Wg m) n else done c
def Phi (c : Dev nD) (n : ℕ) : sProp 𝕄 := iprop((∃ r, prngReg c r) ∗ ∃ K, invs (Og m) (Wg m) K ∗ levAts L lv ∗ phase m c n)

def afterV (c : Dev nD) : (w : Fin cfg0.W) → (t : Fin cfg0.N) → (cfg0.win w).block.Idx → Elt F (cfg0.win w).elt
  | 0 => fun t => iblk m c 0 t
  | 1 => fun t => iblk m c 1 t
  | 2 => fun t => outV (Og m) (Wg m) c (t.val - 1)
  | ⟨_ + 3, h⟩ => absurd h (Nat.not_lt.2 (Nat.le_add_left _ _))

def dat (c : Dev nD) : Dat τ (Elt F) ℕ ℕ UU ℕ cfg0 c where
  A w := V m c (Pipeline.arrRef spec0 w)
  after := afterV m c
  Φ t := Phi m c t.val
  q _ := fullShare
  owed t := owedAt c t.val

theorem before0 (c : Dev nD) (t : Fin cfg0.N) (d) : (dat m c).before 0 t d = Og m c :=
  ((dat m c).before_in_eq_fetched 0 rfl (fun _ => rfl) (fun _ _ _ => rfl) (fun _ => rfl) t d).trans rfl
theorem before1 (c : Dev nD) (t : Fin cfg0.N) (d) : (dat m c).before 1 t d = Wg m c t.val :=
  ((dat m c).before_in_eq_fetched 1 rfl (fun _ => rfl) (fun _ _ _ => rfl) (fun _ => rfl) t d).trans ((rfl : _ = iblk m c 1 t).trans (Wg_eq m c t))

theorem after0 (c : Dev nD) (t : Fin cfg0.N) : (dat m c).after 0 t = Og m c := rfl
theorem after1 (c : Dev nD) (t : Fin cfg0.N) : (dat m c).after 1 t = Wg m c t.val := (rfl : _ = iblk m c 1 t).trans (Wg_eq m c t)
theorem after2 (c : Dev nD) (t : Fin cfg0.N) : (dat m c).after 2 t = outV (Og m) (Wg m) c (t.val - 1) := rfl
theorem Φ_start (c : Dev nD) (t : Fin cfg0.N) : (dat m c).Φ t.castSucc = Phi m c t.val := rfl
theorem Φ_end (c : Dev nD) (t : Fin cfg0.N) : (dat m c).Φ t.succ = Phi m c (t.val + 1) := rfl

theorem idle2 (t : Fin cfg0.N) (h : 0 < t.val) : idle0 2 (grid0.coords t) = false := by
  show (!(k0_cond4 (grid0.coords t) == 1#1)) = false
  rw [(cond4_iff _).mpr (by rw [coord]; exact h)]; rfl
theorem idle2_zero (t : Fin cfg0.N) (h : t.val = 0) : idle0 2 (grid0.coords t) = true ∧ (win0 2).flush t = false := by
  obtain rfl : t = (⟨0, by decide⟩ : Fin grid0.N) := Fin.ext h
  exact ⟨by decide, by decide +kernel⟩

theorem phase_zero (c : Dev nD) : phase m c 0 = start c := if_pos rfl
theorem phase_mid (c : Dev nD) {n : ℕ} (h : 0 < n) (h' : n ≤ 32) : phase m c n = mid c (Og m) (Wg m) n := by
  unfold phase; rw [if_neg (by omega), if_pos h']
theorem phase_last (c : Dev nD) : phase m c 33 = done c := by unfold phase; rw [if_neg (by omega), if_neg (by omega)]

theorem owesAt_in (c : Dev nD) (t : Fin (cfg0.N + 1)) (O : CellTallies nD τ sig ℕ) (h : owedAt c t.val = O) (W : Waits sig ℕ) :
    (owes (c : Thread nD τ) O W : sProp 𝕄) ⊢ (dat m c).owesAt 0 t
    := TalkSites.owesAt_intro (dat m c) 0 t O h rfl W
theorem owesAt_out (c : Dev nD) (t : Fin (cfg0.N + 1)) (O : CellTallies nD τ sig ℕ) (h : owedAt c t.val = O) :
    (dat m c).owesAt 0 t ⊢ (iprop(∃ W, owes (c : Thread nD τ) O W) : sProp 𝕄) := TalkSites.owesAt_elim (dat m c) 0 t O h

set_option maxRecDepth 65536 in
/-- The body obligation: each point is one of the three runs. -/
theorem body0 (c : Dev nD) : BodyObligation (dat m c) defs₀ 𝒱₀ (0 : ℕ) Set.univ := fun t => by
  have ht : t.val < 33 := t.isLt.trans_le N_0.le
  have hi := coord t
  have i0 : cfg0.idle 0 (cfg0.grid.coords t) = false := rfl
  have i1 : cfg0.idle 1 (cfg0.grid.coords t) = false := rfl
  rw [bigSep_W0, bigSep_W0, Φ_start, Φ_end]
  simp only [i0, i1, before0, before1, after0, after1, after2]
  rw [show defs₀ (F := F) Proc.tc 0 (t, cfg0.slots t) = bodyAt0 t from rfl]
  unfold Phi
  rcases Nat.eq_zero_or_pos t.val with h0 | h0
  · rw [(idle2_zero t h0).1, (idle2_zero t h0).2, h0, phase_zero, phase_mid m c (n := 0 + 1) (by omega) (by omega)]
    iintro ⟨⟨Hp, %K, #HI, #Hlev, HS⟩, HO, ⟨%_, H1⟩, ⟨%_, H2⟩, H3⟩
    ihave HO := (owesAt_out m c t.castSucc (owedAt c 0) (by rw [Fin.val_castSucc, h0])) $$ HO
    icases HO with ⟨%W, HO⟩
    iapply (first_run (Og m) (Wg m) K c (hi.trans h0) W) $$ [HO H1 H2 HS]
    · isplitr; · iexact HI
      isplitr; · iexact Hlev
      isplitl [HO]; · iexact HO
      isplitl [H1]; · iexact H1
      isplitl [H2]; · iexact H2
      iexact HS
    iintro ⟨⟨%W, HO⟩, H1, H2, HM⟩
    isplitl [Hp HM]
    · isplitl [Hp]; · iexact Hp
      iexists K
      isplitr; · iexact HI
      isplitr; · iexact Hlev
      iexact HM
    isplitl [HO]
    · iapply (owesAt_in m c t.succ (owedR c 1) (by rw [Fin.val_succ, h0]; exact owedAt_succ c 1 (by decide)) W)
      iexact HO
    isplitl [H1]; · iexact H1
    isplitl [H2]; · iexact H2
    iexact H3
  · rw [idle2 t h0, phase_mid m c h0 (by omega)]
    iintro ⟨⟨Hp, %K, #HI, #Hlev, HS⟩, HO, ⟨%_, H1⟩, ⟨%_, H2⟩, ⟨%d, H3⟩⟩
    rcases Nat.lt_or_ge t.val 32 with h1 | h1
    · rw [phase_mid m c (n := t.val + 1) (by omega) (by omega)]
      ihave HO := (owesAt_out m c t.castSucc (owedR c t.val) (owedAt_succ c t.val (by omega))) $$ HO
      icases HO with ⟨%W, HO⟩
      iapply (mid_run (Og m) (Wg m) K c hi h0 h1 W ((dat m c).before 2 t d)) $$ [HO H1 H2 H3 HS]
      · isplitr; · iexact HI
        isplitr; · iexact Hlev
        isplitl [HO]; · iexact HO
        isplitl [H1]; · iexact H1
        isplitl [H2]; · iexact H2
        isplitl [H3]; · iexact H3
        iexact HS
      iintro ⟨⟨%W, HO⟩, H1, H2, H3, HM⟩
      isplitl [Hp HM]
      · isplitl [Hp]; · iexact Hp
        iexists K
        isplitr; · iexact HI
        isplitr; · iexact Hlev
        iexact HM
      isplitl [HO]
      · iapply (owesAt_in m c t.succ (owedR c (t.val + 1)) (owedAt_succ c _ (Nat.succ_ne_zero _)) W)
        iexact HO
      isplitl [H1]; · iexact H1
      isplitl [H2]; · iexact H2
      iexact H3
    · have h2 : t.val = 32 := by omega
      rw [h2, phase_last]
      ihave HO := (owesAt_out m c t.castSucc (owedR c 32) (by rw [Fin.val_castSucc, h2]; exact owedAt_succ c 32 (by decide))) $$ HO
      icases HO with ⟨%W, HO⟩
      iapply (last_run (Og m) (Wg m) K c (hi.trans h2) W ((dat m c).before 2 t d)) $$ [HO H3 HS]
      · isplitr; · iexact HI
        isplitr; · iexact Hlev
        isplitl [HO]; · iexact HO
        isplitl [H3]; · iexact H3
        iexact HS
      iintro ⟨⟨%W, HO⟩, H3, HM⟩
      isplitl [Hp HM]
      · isplitl [Hp]; · iexact Hp
        iexists K
        isplitr; · iexact HI
        isplitr; · iexact Hlev
        iexact HM
      isplitl [HO]
      · iapply (owesAt_in m c t.succ (owedR c 32) (by
          rw [Fin.val_succ, h2, owedAt_succ c _ (by decide), owedR_end c (by decide), owedR_end c (by decide)]) W)
        iexact HO
      isplitl [H1]; · iexact H1
      isplitl [H2]; · iexact H2
      iexact H3

end Cert.KernelIdeal.Own

end
-- ==== Proof.Scratch.lean ====
/-
  What the launch hands a core of its scratch memory and its counters, and what the core hands back: the ring buffers
  whole against their slots, the six counters one by one.
-/
module

public import proofs.«01_k».proof.Proof.Points
public import Idealize.ShloMosaic.Lib.Ring.AtN

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

local notation "𝕄" => MT nD τ sig ℕ (Elt F) ℕ UU ℕ

/-! ## Buffers and slots -/

theorem free_out (c : Dev nD) (s : Memref sig .tc .vmem S1x1024x256 .bf16) :
    (free c s : sProp 𝕄) ⊢ iprop(∃ f, s.view.loc (c : Thread nD τ) ↦[s.view.set]{fullShare} f) := by
  unfold free owns
  iintro ⟨%X, %f, -, H⟩
  iexists f; iexact H
theorem free_in (c : Dev nD) (s : Memref sig .tc .vmem S1x1024x256 .bf16) :
    iprop(∃ f, s.view.loc (c : Thread nD τ) ↦[s.view.set]{fullShare} f) ⊢ (free c s : sProp 𝕄) := by
  unfold free
  iintro ⟨%f, H⟩
  iexists (s.view.read (Elt F) f)
  iapply (owns_intro (c : Thread nD τ) s fullShare f); iexact H
/-- A slot at contents not chosen, by its elements. -/
theorem free_eq (c : Dev nD) (s : Memref sig .tc .vmem S1x1024x256 .bf16) :
    (free c s : sProp 𝕄) = iprop(∃ f, s.view.loc (c : Thread nD τ) ↦[s.view.set]{fullShare} f) :=
  Entails.antisymm (free_out c s) (free_in c s)

def set2 (b : Fin 2) : Finset S2x1024x256.Idx := (Rect.unit (s := S2x1024x256) ![b.val % 2, 0, 0] S1x1024x256.size (inbS2 b.val)).set
def set4 (b : Fin 4) : Finset S4x1024x256.Idx := (Rect.unit (s := S4x1024x256) ![b.val % 4, 0, 0] S1x1024x256.size (inbS4 b.val)).set

theorem set2_disj (b b' : Fin 2) (h : b ≠ b') : Disjoint (set2 b) (set2 b') :=
  Ring.lead_disjoint (s := S2x1024x256) (NB := 2) 0 1 (fun b => ![b.val % 2, 0, 0]) S1x1024x256.size (fun b => inbS2 b.val)
    (fun b => by fin_cases b <;> rfl) rfl b b' h
theorem set2_cover : Finset.univ.biUnion set2 = Finset.univ :=
  Ring.lead_cover (s := S2x1024x256) (NB := 2) 0 1 (fun b => ![b.val % 2, 0, 0]) S1x1024x256.size (fun b => inbS2 b.val)
    (fun b => by fin_cases b <;> rfl) (fun b a h => by fin_cases a <;> first | rfl | exact absurd rfl h) rfl (by decide) rfl
theorem set4_disj (b b' : Fin 4) (h : b ≠ b') : Disjoint (set4 b) (set4 b') :=
  Ring.lead_disjoint (s := S4x1024x256) (NB := 4) 0 1 (fun b => ![b.val % 4, 0, 0]) S1x1024x256.size (fun b => inbS4 b.val)
    (fun b => by fin_cases b <;> rfl) rfl b b' h
theorem set4_cover : Finset.univ.biUnion set4 = Finset.univ :=
  Ring.lead_cover (s := S4x1024x256) (NB := 4) 0 1 (fun b => ![b.val % 4, 0, 0]) S1x1024x256.size (fun b => inbS4 b.val)
    (fun b => by fin_cases b <;> rfl) (fun b a h => by fin_cases a <;> first | rfl | exact absurd rfl h) rfl (by decide) rfl

section Whole

variable (c : Dev nD)

/-- A buffer whole at contents not chosen. -/
def any (b : Ref sig .tc) : sProp 𝕄 := iprop(∃ f : Buf (Elt F) ((c : Thread nD τ).loc b), ((c : Thread nD τ).loc b) ↦{fullShare} f)

abbrev onS (b : Ref sig .tc) (J : Finset (Idx ((c : Thread nD τ).loc b))) (f : Buf (Elt F) ((c : Thread nD τ).loc b)) : sProp 𝕄 :=
  ((c : Thread nD τ).loc b) ↦[J]{fullShare} f

theorem send_on (i : Fin 2) : (free c (sendS i.val) : sProp 𝕄) = iprop(∃ f, onS c cc0_scratch0 (set2 i) f) := by
  rw [free_eq, show (sendS i.val).view.set = set2 i from View.set_slice_whole _ _]
theorem stage_on (i : Fin 2) : (free c (stageS i.val) : sProp 𝕄) = iprop(∃ f, onS c cc0_scratch2 (set2 i) f) := by
  rw [free_eq, show (stageS i.val).view.set = set2 i from View.set_slice_whole _ _]
theorem recv_on (i : Fin 4) : (free c (recvS i.val) : sProp 𝕄) = iprop(∃ f, onS c cc0_scratch1 (set4 i) f) := by
  rw [free_eq, show (recvS i.val).view.set = set4 i from View.set_slice_whole _ _]

theorem send_split : (any c cc0_scratch0 : sProp 𝕄) ⊢ iprop(free c (sendS 0) ∗ free c (sendS 1)) := by
  rw [show (free c (sendS 0) : sProp 𝕄) = _ from send_on c 0, show (free c (sendS 1) : sProp 𝕄) = _ from send_on c 1]
  exact Ring.slots2_split (ℓ := (c : Thread nD τ).loc cc0_scratch0) set2 set2_disj set2_cover _ _ (fun _ => rfl) (fun _ => rfl)
theorem send_join : iprop(free c (sendS 0) ∗ free c (sendS 1)) ⊢ (any c cc0_scratch0 : sProp 𝕄) := by
  rw [show (free c (sendS 0) : sProp 𝕄) = _ from send_on c 0, show (free c (sendS 1) : sProp 𝕄) = _ from send_on c 1]
  exact Ring.slots2_join (ℓ := (c : Thread nD τ).loc cc0_scratch0) set2 set2_disj set2_cover _ _ (fun _ => rfl) (fun _ => rfl)
theorem stage_split : (any c cc0_scratch2 : sProp 𝕄) ⊢ iprop(free c (stageS 0) ∗ free c (stageS 1)) := by
  rw [show (free c (stageS 0) : sProp 𝕄) = _ from stage_on c 0, show (free c (stageS 1) : sProp 𝕄) = _ from stage_on c 1]
  exact Ring.slots2_split (ℓ := (c : Thread nD τ).loc cc0_scratch2) set2 set2_disj set2_cover _ _ (fun _ => rfl) (fun _ => rfl)
theorem stage_join : iprop(free c (stageS 0) ∗ free c (stageS 1)) ⊢ (any c cc0_scratch2 : sProp 𝕄) := by
  rw [show (free c (stageS 0) : sProp 𝕄) = _ from stage_on c 0, show (free c (stageS 1) : sProp 𝕄) = _ from stage_on c 1]
  exact Ring.slots2_join (ℓ := (c : Thread nD τ).loc cc0_scratch2) set2 set2_disj set2_cover _ _ (fun _ => rfl) (fun _ => rfl)
theorem recv_split : (any c cc0_scratch1 : sProp 𝕄) ⊢ iprop(free c (recvS 0) ∗ free c (recvS 1) ∗ free c (recvS 2) ∗ free c (recvS 3)) := by
  rw [show (free c (recvS 0) : sProp 𝕄) = _ from recv_on c 0, show (free c (recvS 1) : sProp 𝕄) = _ from recv_on c 1,
    show (free c (recvS 2) : sProp 𝕄) = _ from recv_on c 2, show (free c (recvS 3) : sProp 𝕄) = _ from recv_on c 3]
  exact Ring.slots4_split (ℓ := (c : Thread nD τ).loc cc0_scratch1) set4 set4_disj set4_cover _ _ _ _ (fun _ => rfl) (fun _ => rfl) (fun _ => rfl) (fun _ => rfl)
theorem recv_join : iprop(free c (recvS 0) ∗ free c (recvS 1) ∗ free c (recvS 2) ∗ free c (recvS 3)) ⊢ (any c cc0_scratch1 : sProp 𝕄) := by
  rw [show (free c (recvS 0) : sProp 𝕄) = _ from recv_on c 0, show (free c (recvS 1) : sProp 𝕄) = _ from recv_on c 1,
    show (free c (recvS 2) : sProp 𝕄) = _ from recv_on c 2, show (free c (recvS 3) : sProp 𝕄) = _ from recv_on c 3]
  exact Ring.slots4_join (ℓ := (c : Thread nD τ).loc cc0_scratch1) set4 set4_disj set4_cover _ _ _ _ (fun _ => rfl) (fun _ => rfl) (fun _ => rfl) (fun _ => rfl)
theorem wbf_eq : (any c cc0_scratch3 : sProp 𝕄) = wbf c := by
  unfold any wbf
  refine congrArg _ (funext fun f => ?_)
  exact (owns_whole (c : Thread nD τ) cc0_scratch3 fullShare f).symm

theorem scratch_eq : (Pipeline.scopedRest spec0 c : sProp 𝕄)
    = iprop(any c cc0_scratch0 ∗ any c cc0_scratch1 ∗ any c cc0_scratch2 ∗ any c cc0_scratch3) := scopedRest0_eq c

/-- The scratch memory as free slots, -/
theorem scratch_split : (Pipeline.scopedRest spec0 c : sProp 𝕄)
    ⊢ iprop((free c (sendS 0) ∗ free c (sendS 1)) ∗ (free c (recvS 0) ∗ free c (recvS 1) ∗ free c (recvS 2) ∗ free c (recvS 3))
      ∗ (free c (stageS 0) ∗ free c (stageS 1)) ∗ wbf c) := by
  rw [scratch_eq, wbf_eq]
  iintro ⟨H0, H1, H2, H3⟩
  isplitl [H0]; · iapply (send_split c); iexact H0
  isplitl [H1]; · iapply (recv_split c); iexact H1
  isplitl [H2]; · iapply (stage_split c); iexact H2
  iexact H3
/-- and the free slots as the scratch memory. -/
theorem scratch_join :
    iprop((free c (sendS 0) ∗ free c (sendS 1)) ∗ (free c (recvS 0) ∗ free c (recvS 1) ∗ free c (recvS 2) ∗ free c (recvS 3))
      ∗ (free c (stageS 0) ∗ free c (stageS 1)) ∗ wbf c) ⊢ (Pipeline.scopedRest spec0 c : sProp 𝕄) := by
  rw [scratch_eq, wbf_eq]
  iintro ⟨H0, H1, H2, H3⟩
  isplitl [H0]; · iapply (send_join c); iexact H0
  isplitl [H1]; · iapply (recv_join c); iexact H1
  isplitl [H2]; · iapply (stage_join c); iexact H2
  iexact H3

/-! ## The six counters -/

theorem regroup (P Q R : sProp 𝕄) : iprop(P ∗ Q ∗ R) ⊢ iprop((P ∗ Q) ∗ R) := Laws.sep_assoc.2
theorem degroup (P Q R : sProp 𝕄) : iprop((P ∗ Q) ∗ R) ⊢ iprop(P ∗ Q ∗ R) := Laws.sep_assoc.1
theorem six (Φ : Fin 6 → sProp 𝕄) : bigSep Finset.univ Φ = iprop((Φ 0 ∗ Φ 1) ∗ Φ 2 ∗ Φ 3 ∗ Φ 4 ∗ Φ 5) :=
  (bigSep_univ_eq_bigSepL [(0 : Fin 6), 1, 2, 3, 4, 5] (by decide) (by decide) Φ).trans
    (Entails.antisymm (regroup (Φ 0) (Φ 1) _) (degroup (Φ 0) (Φ 1) _))

/-- One fact about each of a core's own cells. -/
def each (X : GSem nD τ sig → sProp 𝕄) : sProp 𝕄 :=
  iprop((X (sendCell c 0) ∗ X (sendCell c 1)) ∗ X (recvCell c 0) ∗ X (recvCell c 1) ∗ X (recvCell c 2) ∗ X (recvCell c 3))
theorem each_eq (X : GSem nD τ sig → sProp 𝕄) : bigSep Finset.univ (fun k : Fin 6 => X ((c : Thread nD τ), osem k)) = each c X := six _
theorem ownSems_eq : (Pipeline.ownSems0 osem c : sProp 𝕄) = each c fun g => semVal g 0 := each_eq c fun g => semVal g 0

end Whole

end Cert.KernelIdeal.Own

end
-- ==== Proof.Region.lean ====
/-
  The region as a segment of the program: what a core brings to it from the launch, how its cells are opened at the entry,
  and what it leaves.
-/
module

public import proofs.«01_k».proof.Proof.Scratch

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen Cert.KernelIdeal.Slots

variable {F : FTy → Type} [FloatOps F]

local notation "𝕄" => MT nD τ sig ℕ (Elt F) ℕ UU ℕ

variable (m : (ℓ : Loc nD τ sig) → Buf (Elt F) ℓ)

/-! ## Opening the cells -/

section Open

variable (Og : Dev nD → Vec F S2048x4096 .bf16) (Wg : Dev nD → ℕ → Vec F S4096x256 .bf16) (K : GSem nD τ sig → ℕ) (c : Dev nD)

/-- A cell opened: its first round is being waited for. -/
def opened (g : GSem nD τ sig) : sProp 𝕄 := iprop(atPos ER g 0 ∅ 0 ∗ reached ER g 0)

theorem open_send (i : ℕ) : iprop(invs Og Wg K ∗ openTok ER (sendCell c i) ∗ semVal (sendCell c i) 0) ⊢ (|={Set.univ}=> opened (sendCell c i) : sProp 𝕄) :=
  (sep_mono_left (inv_send Og Wg K c i)).trans (Rounds.cell_open ER (Rd Og Wg) (Set.mem_univ _))
theorem open_recv (i : ℕ) : iprop(invs Og Wg K ∗ openTok ER (recvCell c i) ∗ semVal (recvCell c i) 0) ⊢ (|={Set.univ}=> opened (recvCell c i) : sProp 𝕄) :=
  (sep_mono_left (inv_recv Og Wg K c i)).trans (Rounds.cell_open ER (Rd Og Wg) (Set.mem_univ _))

/-- All six at once. -/
theorem open_all : iprop(invs Og Wg K ∗ each c (fun g => openTok ER g) ∗ each c (fun g => semVal g 0)) ⊢ (|={Set.univ}=> each c opened : sProp 𝕄) := by
  unfold each
  iintro ⟨#HI, ⟨⟨T0, T1⟩, T2, T3, T4, T5⟩, ⟨V0, V1⟩, V2, V3, V4, V5⟩
  imod (open_send Og Wg K c 0) $$ [T0 V0] with H0
  · isplitr; · iexact HI
    isplitl [T0]; · iexact T0
    iexact V0
  imod (open_send Og Wg K c 1) $$ [T1 V1] with H1
  · isplitr; · iexact HI
    isplitl [T1]; · iexact T1
    iexact V1
  imod (open_recv Og Wg K c 0) $$ [T2 V2] with H2
  · isplitr; · iexact HI
    isplitl [T2]; · iexact T2
    iexact V2
  imod (open_recv Og Wg K c 1) $$ [T3 V3] with H3
  · isplitr; · iexact HI
    isplitl [T3]; · iexact T3
    iexact V3
  imod (open_recv Og Wg K c 2) $$ [T4 V4] with H4
  · isplitr; · iexact HI
    isplitl [T4]; · iexact T4
    iexact V4
  imod (open_recv Og Wg K c 3) $$ [T5 V5] with H5
  · isplitr; · iexact HI
    isplitl [T5]; · iexact T5
    iexact V5
  imodintro
  isplitl [H0 H1]
  · isplitl [H0]; · iexact H0
    iexact H1
  isplitl [H2]; · iexact H2
  isplitl [H3]; · iexact H3
  isplitl [H4]; · iexact H4
  iexact H5

end Open

/-! ## What a core brings and what it enters with -/

section Entry

variable (c : Dev nD)

/-- Its own part of the protocol's start, the cells not yet opened. -/
def dealt : sProp 𝕄 :=
  iprop((dutyTok ER (barCell (pr c)) 0 () ∗ atPos ER (barCell c) 0 ∅ 0) ∗ each c (fun g => openTok ER g) ∗ toks c 0)
/-- What the partner owes it. -/
def due : sProp 𝕄 := iprop(cred (tallyAt (barCell c) 0 1) ∗ creds c 0)

def Tk : sProp 𝕄 := iprop((∃ K, invs (Og m) (Wg m) K ∗ reached ER (barCell (pr c)) 0 ∗ dealt c) ∗ due c)
def Xk : sProp 𝕄 :=
  iprop((∃ K, invs (Og m) (Wg m) K ∗ levAts L lv)
    ∗ (reached ER (barCell (pr c)) 0 ∗ dutyTok ER (barCell (pr c)) 0 () ∗ cred (tallyAt (barCell c) 0 1) ∗ atPos ER (barCell c) 0 ∅ 0)
    ∗ each c opened ∗ toks c 0 ∗ creds c 0)
def Yk : sProp 𝕄 := semVal (barCell c) 0

theorem hopen : iprop(Tk m c ∗ Pipeline.ownSems0 osem c ∗ levAts L lv) ⊢ (|={Set.univ}=> Xk m c : sProp 𝕄) := by
  rw [ownSems_eq]
  unfold Tk Xk dealt due
  iintro ⟨⟨⟨%K, #HI, #HR, ⟨Hd, Ha⟩, Ho, Ht⟩, Hc, Hcs⟩, Hv, #Hlev⟩
  imod (open_all (Og m) (Wg m) K c) $$ [Ho Hv] with Ho
  · isplitr; · iexact HI
    isplitl [Ho]; · iexact Ho
    iexact Hv
  imodintro
  isplitr
  · iexists K
    isplitr; · iexact HI
    iexact Hlev
  isplitl [Hd Hc Ha]
  · isplitr; · iexact HR
    isplitl [Hd]; · iexact Hd
    isplitl [Hc]; · iexact Hc
    iexact Ha
  isplitl [Ho]; · iexact Ho
  isplitl [Ht]; · iexact Ht
  iexact Hcs

theorem posR_start (i : ℕ) (h : i < 4) : (posR c i : sProp 𝕄) = atPos ER (recvCell c i) 0 ∅ 0 := by
  unfold posR; rw [Nat.div_eq_of_lt h]
theorem right_start (i : ℕ) (h : i < 4) : (right c i : sProp 𝕄) = iprop(free c (recvS i) ∗ reached ER (recvCell c i) 0) := by
  unfold right; rw [Nat.div_eq_of_lt h]
theorem sendSt_start (i : ℕ) (h : i < 2) : (sendSt c i : sProp 𝕄)
    = iprop(atPos ER (sendCell c i) 0 ∅ 0 ∗ reached ER (sendCell c i) 0 ∗ free c (sendS i)) := by
  unfold sendSt; rw [if_pos h, Nat.div_eq_of_lt h]

theorem start_intro :
    iprop((reached ER (barCell (pr c)) 0 ∗ dutyTok ER (barCell (pr c)) 0 () ∗ cred (tallyAt (barCell c) 0 1) ∗ atPos ER (barCell c) 0 ∅ 0)
      ∗ each c opened ∗ toks c 0 ∗ creds c 0
      ∗ ((free c (sendS 0) ∗ free c (sendS 1)) ∗ (free c (recvS 0) ∗ free c (recvS 1) ∗ free c (recvS 2) ∗ free c (recvS 3))
      ∗ (free c (stageS 0) ∗ free c (stageS 1)) ∗ wbf c)) ⊢ (start c : sProp 𝕄) := by
  unfold start own common posRs each opened
  rw [if_neg (by decide), if_neg (by decide)]
  simp only [Nat.zero_add, Nat.zero_sub]
  rw [right_start c 0 (by decide), right_start c 1 (by decide), right_start c 2 (by decide), right_start c 3 (by decide),
    sendSt_start c 0 (by decide), sendSt_start c 1 (by decide), posR_start c 0 (by decide), posR_start c 1 (by decide),
    posR_start c 2 (by decide), posR_start c 3 (by decide)]
  iintro ⟨HB, ⟨⟨⟨A0, #R0⟩, A1, #R1⟩, ⟨A2, #R2⟩, ⟨A3, #R3⟩, ⟨A4, #R4⟩, A5, #R5⟩, HT, HC, ⟨S0, S1⟩, ⟨V0, V1, V2, V3⟩, HG, HW⟩
  isplitl [HB]; · iexact HB
  isplitl [V0 V1]
  · isplitl [V0]
    · isplitl [V0]; · iexact V0
      iexact R2
    isplitl [V1]; · iexact V1
    iexact R3
  isplitl [V2]
  · isplitl [V2]
    · isplitl [V2]; · iexact V2
      iexact R4
    isplitr; · iempintro
    iempintro
  isplitl [V3]
  · isplitl [V3]; · iexact V3
    iexact R5
  isplitl [HG]; · iexact HG
  isplitl [A0 S0]
  · isplitl [A0]; · iexact A0
    isplitr; · iexact R0
    iexact S0
  isplitl [A1 S1]
  · isplitl [A1]; · iexact A1
    isplitr; · iexact R1
    iexact S1
  isplitl [HW]; · iexact HW
  isplitl [HT]; · iexact HT
  isplitl [HC]; · iexact HC
  isplitl [A2]; · iexact A2
  isplitl [A3]; · iexact A3
  isplitl [A4]; · iexact A4
  iexact A5

theorem done_elim : (done c : sProp 𝕄) ⊢ iprop(Pipeline.scopedRest spec0 c ∗ Pipeline.ownSems0 osem c ∗ Yk c) := by
  rw [ownSems_eq]
  unfold done each Yk
  rw [sendCell_congr c (show 32 % 2 = 0 % 2 from rfl), sendCell_congr c (show 33 % 2 = 1 % 2 from rfl),
    recvCell_congr c (show 32 % 4 = 0 % 4 from rfl), recvCell_congr c (show 33 % 4 = 1 % 4 from rfl),
    recvCell_congr c (show 34 % 4 = 2 % 4 from rfl), recvCell_congr c (show 35 % 4 = 3 % 4 from rfl),
    sendS_congr (show 32 % 2 = 0 % 2 from rfl), sendS_congr (show 33 % 2 = 1 % 2 from rfl),
    recvS_congr (show 32 % 4 = 0 % 4 from rfl), recvS_congr (show 33 % 4 = 1 % 4 from rfl),
    recvS_congr (show 34 % 4 = 2 % 4 from rfl), recvS_congr (show 35 % 4 = 3 % 4 from rfl),
    stageS_congr (show 32 % 2 = 0 % 2 from rfl), stageS_congr (show 33 % 2 = 1 % 2 from rfl)]
  iintro ⟨HB, HS, HV, HF⟩
  isplitl [HF]; · iapply (scratch_join c); iexact HF
  isplitl [HS HV]
  · isplitl [HS]; · iexact HS
    iexact HV
  iexact HB

theorem hin : iprop(Pipeline.scopedRest spec0 c ∗ (∃ r, prngReg c r) ∗ StableHlo.held (c.tc : Thread nD τ) ∅ (V0 m c) ∗ Xk m c) ⊢ (Phi m c 0 : sProp 𝕄) := by
  unfold Phi Xk
  rw [phase_zero]
  iintro ⟨HS, Hp, -, ⟨%K, #HI, #Hlev⟩, HB, HE, HT, HC⟩
  isplitl [Hp]; · iexact Hp
  iexists K
  isplitr; · iexact HI
  isplitr; · iexact Hlev
  iapply (start_intro c)
  isplitl [HB]; · iexact HB
  isplitl [HE]; · iexact HE
  isplitl [HT]; · iexact HT
  isplitl [HC]; · iexact HC
  iapply (scratch_split c); iexact HS

theorem hout (W : Valuation τ sig (Elt F)) : (Phi m c 33 : sProp 𝕄)
    ⊢ iprop(Pipeline.scopedRest spec0 c ∗ (∃ r, prngReg c r) ∗ StableHlo.held (c.tc : Thread nD τ) ∅ W ∗ Pipeline.ownSems0 osem c ∗ Yk c) := by
  unfold Phi
  rw [phase_last, show (StableHlo.held (c.tc : Thread nD τ) ∅ W : sProp 𝕄) = BI.emp from BI.bigSep_empty]
  iintro ⟨Hp, %K, -, -, HD⟩
  ihave HD := (done_elim c) $$ HD
  icases HD with ⟨HS, HO, HY⟩
  isplitl [HS]; · iexact HS
  isplitl [Hp]; · iexact Hp
  isplitr; · iempintro
  isplitl [HO]; · iexact HO
  iexact HY

end Entry

/-! ## The segment -/

abbrev adm : (p : Fin 1) → (pcfgs (F := F) p).Adm := fun p => (cfgs p).toPCfg_adm

def pdats (p : Fin 1) (c : Dev nD) : Dat τ (Elt F) ℕ ℕ UU ℕ (Pipeline.pin (pcfgs (F := F)) adm p) c :=
  match p with | 0 => dat m c

/-- The buffers outside the region's arrays, -/
abbrev Sr : Finset (DevRef τ sig) := Pipeline.ucRefs τ sig \ Pipeline.arrRefs spec0
/-- and all of them after the region: its result array written, the rest as before. -/
def V1 (c : Dev nD) : Valuation τ sig (Elt F) := Pipeline.withArrays spec0 c (V0 m c) fun w => (dat m c).arrAt w cfg0.N

theorem V1_arr (c : Dev nD) (w : Fin 3) : V1 m c (Proc.devRef .tc (Pipeline.arrRef spec0 w)) = (dat m c).arrAt w cfg0.N :=
  Pipeline.withArrays_arr spec0 winFacts0.arr_inj c (V0 m c) _ w
theorem V1_rest (c : Dev nD) (b : Ref sig .tc) (h : ∀ w, Pipeline.arrRef spec0 w ≠ b) : V1 m c (Proc.devRef .tc b) = V0 m c (Proc.devRef .tc b) :=
  Pipeline.withArrays_of_ne spec0 c (V0 m c) _ b h
theorem V1_Sr (c : Dev nD) (b : DevRef τ sig) (h : b ∈ Sr) : V1 m c b = V0 m c b := by
  obtain ⟨h1, h2⟩ := Finset.mem_sdiff.mp h
  obtain ⟨r, -, rfl⟩ := Finset.mem_map.mp (Finset.mem_filter.mp h1).1
  exact V1_rest m c r fun w e => h2 (Finset.mem_map.mpr ⟨r, Finset.mem_image.mpr ⟨w, Finset.mem_univ w, e⟩, rfl⟩)

theorem stage_level : ∀ (w : Fin 3) (s : Fin ((spec0 w).nbuf)), (((spec0 w).sem s).val < 7) := by decide

theorem dat_share (c : Dev nD) (w : Fin 3) : (dat m c).share w = fullShare := by
  unfold Dat.share
  split <;> rfl

set_option backward.isDefEq.respectTransparency.types false in
def reg0 : Pipeline.RegionSeg (pcfgs (F := F)) adm (pdats m) (0 : ℕ) defs₀ 𝒱₀ L lv 0 :=
  Pipeline.RegionSeg.ofTalk (pcfgs (F := F)) adm (pdats m) (0 : ℕ) defs₀ 𝒱₀ L lv 0 osem (by decide : Pipeline.OwnSemFacts spec0 osem)
    ∅ Sr (Finset.empty_subset _) launch0.toP rfl (fun c => (body0 m c).loose)
    (fun _ => 0) (fun c => owedAt c 0) (fun c => (zero_add _).symm)
    (fun c => (owedAt_succ c 33 (by decide)).trans (owedR_end c (by decide))) (fun _ => rfl) (dat_share m)
    (V0 m) (V1 m) (fun c b hb => V1_Sr m c b (Finset.mem_sdiff.mp hb).1)
    (Tk m) Yk (Xk m) Yk (hopen m) (hin m) (fun c => hout m c (V1 m c))
    (fun c => by iintro H; imodintro; iexact H)
    (fun _ => 0)
    ⟨fun c w s => by rw [L_tc]; decide, fun c w s => (if_neg (Nat.not_le.mpr (stage_level w s))).le, fun c t g i h => owedAt_cut h⟩
    (fun _ => iprop(emp))
    (fun _ w => rfl) (fun c w => (V1_arr m c w).symm)

end Cert.KernelIdeal.Own

end
-- ==== Proof.Launch.lean ====
/-
  The launch: the invariants of all the cells made, and every device dealt its part of the start — the tokens for the
  copies it will make and for its signal at the barrier, and the credit for what its partner owes it.
-/
module

public import proofs.«01_k».proof.Proof.Region

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

local notation "𝕄" => MT nD τ sig ℕ (Elt F) ℕ UU ℕ

variable (m : (ℓ : Loc nD τ sig) → Buf (Elt F) ℓ) (ρ : Dev nD → PrngReg)

/-- Every device and its partner. -/
def swap : Dev nD ≃ Dev nD := ⟨pr, pr, pr_pr, pr_pr⟩

/-! ## The credit -/

theorem launch_one (f : Dev nD → GSem nD τ sig) (hf : ∀ d, (f d).1 = (d : Thread nD τ)) (i n : ℕ) (c : Dev nD) :
    (Pipeline.launchCred (fun d => tallyAt (f (pr d)) i n) c : sProp 𝕄) = cred (tallyAt (f c) i n) :=
  Pipeline.launchCred_of_sum _ (fun d => tallyAt (f d) i n) (Equiv.sum_comp swap fun d => (tallyAt (f d) i n : CellTallies nD τ sig ℕ))
    (fun d g h => by
      by_contra hg
      exact h (tallyAt_ne_cell (fun e => hg (by rw [e, hf])) i n)) c

/-- What the devices owe one another at the start is, on device `c`, what its partner owes it. -/
theorem launch_due (c : Dev nD) : (Pipeline.launchCred (fun d => owedAt d 0) c : sProp 𝕄) = iprop(creds c 0 ∗ cred (tallyAt (barCell c) 0 1)) := by
  rw [show (fun d : Dev nD => owedAt d 0) = fun d => (∑ i ∈ Finset.Ico 0 32, tallyAt (recvCell (pr d) i) i N) + tallyAt (barCell (pr d)) 0 1 from
      funext owedAt_zero,
    Pipeline.launchCred_add, Pipeline.launchCred_sum, launch_one (fun d => barCell d) (fun _ => rfl)]
  unfold creds
  rw [bigSep_congr fun i _ => launch_one (fun d => recvCell d i) (fun _ => rfl) i N c]

/-! ## The tokens -/

theorem dev_of {c d : Dev nD} (h : (c : Thread nD τ) = (d : Thread nD τ)) : c = d := congrArg Prod.fst h
theorem sem_of {c d : Dev nD} {a b : DmaSem sig} (h : (((c : Thread nD τ), SemLoc.dma a) : GSem nD τ sig) = ((d : Thread nD τ), SemLoc.dma b)) :
    c = d ∧ a.val = b.val :=
  ⟨dev_of (congrArg Prod.fst h), congrArg Fin.val (SemLoc.dma.inj (congrArg Prod.snd h))⟩

def barTok : Dev nD ↪ GSem nD τ sig × ℕ × Unit := ⟨fun c => (barCell c, 0, ()), fun _ _ h => dev_of (congrArg (fun x : GSem nD τ sig × ℕ × Unit => x.1.1) h)⟩
def sendTok : Dev nD × Fin 32 ↪ GSem nD τ sig × ℕ × Unit :=
  ⟨fun x => (sendCell x.1 x.2.val, x.2.val / 2, ()), fun x y h => by
    obtain ⟨h1, h2⟩ := sem_of (congrArg Prod.fst h)
    have h3 : x.2.val / 2 = y.2.val / 2 := congrArg (fun z : GSem nD τ sig × ℕ × Unit => z.2.1) h
    rw [sendSem_val, sendSem_val] at h2
    exact Prod.ext h1 (Fin.ext (by omega))⟩
def recvTok : Dev nD × Fin 32 ↪ GSem nD τ sig × ℕ × Unit :=
  ⟨fun x => (recvCell x.1 x.2.val, x.2.val / 4, ()), fun x y h => by
    obtain ⟨h1, h2⟩ := sem_of (congrArg Prod.fst h)
    have h3 : x.2.val / 4 = y.2.val / 4 := congrArg (fun z : GSem nD τ sig × ℕ × Unit => z.2.1) h
    rw [recvSem_val, recvSem_val] at h2
    exact Prod.ext h1 (Fin.ext (by omega))⟩

def copyToks : Finset (GSem nD τ sig × ℕ × Unit) := Finset.univ.map sendTok ∪ Finset.univ.map recvTok
def allToks : Finset (GSem nD τ sig × ℕ × Unit) := Finset.univ.map barTok ∪ copyToks

theorem copy_disj : Disjoint (Finset.univ.map sendTok) (Finset.univ.map recvTok) := by
  rw [Finset.disjoint_left]
  rintro g h1 h2
  obtain ⟨x, -, rfl⟩ := Finset.mem_map.mp h1
  obtain ⟨y, -, h⟩ := Finset.mem_map.mp h2
  have := (sem_of (congrArg Prod.fst h)).2
  rw [sendSem_val, recvSem_val] at this
  omega
theorem bar_disj : Disjoint (Finset.univ.map barTok) copyToks := by
  rw [Finset.disjoint_left]
  rintro g h1 h2
  obtain ⟨x, -, rfl⟩ := Finset.mem_map.mp h1
  rcases Finset.mem_union.mp h2 with h2 | h2
  all_goals
    obtain ⟨y, -, h⟩ := Finset.mem_map.mp h2
    exact absurd (congrArg (fun z : GSem nD τ sig × ℕ × Unit => z.1.2) h) (by intro e; cases e)

theorem range_eq : Finset.Ico 0 32 = (Finset.univ : Finset (Fin 32)).map Fin.valEmbedding := by decide +kernel

def sendToks (c : Dev nD) : sProp 𝕄 := bigSep (Finset.Ico 0 32) fun i => dutyTok ER (sendCell c i) (i / 2) ()
def recvToks (c : Dev nD) : sProp 𝕄 := bigSep (Finset.Ico 0 32) fun i => dutyTok ER (recvCell c i) (i / 4) ()

theorem toks_zero (c : Dev nD) : (toks c 0 : sProp 𝕄) = iprop(sendToks c ∗ recvToks (pr c)) := BI.bigSep_sep' _ _ _

theorem around (Φ : Dev nD → sProp 𝕄) : bigSep Finset.univ Φ = bigSep Finset.univ fun c => Φ (pr c) := bigSep_univ_equiv swap Φ

/-- The tokens made, each device getting those of its own copies and of its own signal. -/
theorem tokens : bigSep allToks (fun x => (dutyTok ER x.1 x.2.1 x.2.2 : sProp 𝕄))
    ⊢ bigSep Finset.univ fun c : Dev nD => iprop(dutyTok ER (barCell (pr c)) 0 () ∗ toks c 0) := by
  have hs : bigSep (Finset.univ.map sendTok) (fun x => (dutyTok ER x.1 x.2.1 x.2.2 : sProp 𝕄)) = bigSep Finset.univ fun c : Dev nD => sendToks c := by
    rw [BI.bigSep_map, bigSep_univ_prod]
    exact bigSep_congr fun c _ => by unfold sendToks; rw [range_eq, BI.bigSep_map]; rfl
  have hr : bigSep (Finset.univ.map recvTok) (fun x => (dutyTok ER x.1 x.2.1 x.2.2 : sProp 𝕄)) = bigSep Finset.univ fun c : Dev nD => recvToks (pr c) := by
    rw [BI.bigSep_map, bigSep_univ_prod]
    refine Eq.trans ?_ (around fun c : Dev nD => (recvToks c : sProp 𝕄))
    exact bigSep_congr fun c _ => by unfold recvToks; rw [range_eq, BI.bigSep_map]; rfl
  have hb : bigSep (Finset.univ.map barTok) (fun x => (dutyTok ER x.1 x.2.1 x.2.2 : sProp 𝕄))
      = bigSep Finset.univ fun c : Dev nD => (dutyTok ER (barCell (pr c)) 0 () : sProp 𝕄) := by
    rw [BI.bigSep_map]
    exact around fun c : Dev nD => (dutyTok ER (barCell c) 0 () : sProp 𝕄)
  unfold allToks copyToks
  rw [bigSep_union (by exact bar_disj), bigSep_union copy_disj, hs, hr, hb]
  simp only [toks_zero, BI.bigSep_sep']
  exact Entails.refl _

end Cert.KernelIdeal.Own

end
-- ==== Proof.Run.lean ====
/-
  The run of the whole program from any memory: the arguments stay, every counter ends at zero, and the result holds what
  the host operation after the region makes of the region's array.
-/
module

public import proofs.«01_k».proof.Proof.Launch

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Slots

variable {F : FTy → Type} [FloatOps F]

local notation "𝕄" => MT nD τ sig ℕ (Elt F) ℕ UU ℕ

variable (m : (ℓ : Loc nD τ sig) → Buf (Elt F) ℓ) (ρ : Dev nD → PrngReg)

/-! ## The segments -/

/-- The buffers as launched, and after the last host operation. -/
def Vin (c : Dev nD) : Valuation τ sig (Elt F) := fun b => m (c, b)
def V2 (c : Dev nD) : Valuation τ sig (Elt F) := StableHlo.after hostOps1 (V1 m c)

/-- What a core holds beside its buffers before the region, and after it. -/
def R0 (c : Dev nD) : sProp 𝕄 := iprop(Tk m c ∗ (∃ r, prngReg c r) ∗ ∃ W, owes (c : Thread nD τ) (owedAt c 0) W)
def R1 (c : Dev nD) : sProp 𝕄 := iprop(Yk c ∗ ∃ W, owes (c : Thread nD τ) (0 : CellTallies nD τ sig ℕ) W)

theorem ops_in {ops : List (HloOp τ sig (Elt F))} (h : ops.Forall fun op => op.bufs ⊆ StableHlo.tcRefs τ sig) : ∀ op ∈ ops, op.bufs ⊆ Pipeline.ucRefs τ sig :=
  fun op ho => Pipeline.sub_ucRefs op (List.forall_iff_forall_mem.mp h op ho)

def host0 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0 (ops_in hostOps0_sub) (List.forall_iff_forall_mem.mp hostOps0_fresh) (Vin m) (R0 m)
def host1 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps1 (ops_in hostOps1_sub) (List.forall_iff_forall_mem.mp hostOps1_fresh) (V1 m) R1

def segs : List (Pipeline.Seg (pcfgs (F := F)) adm (pdats m) (0 : ℕ) defs₀ 𝒱₀ L lv) := [.host (host0 m), .region (reg0 m), .host (host1 m)]

theorem arrays_sub : Pipeline.arrRefs (τ := τ) spec0 ⊆ Pipeline.ucRefs τ sig := Pipeline.arrRefs_sub_ucRefs spec0 winFacts0.arr_unscoped

theorem reg0_pre (c : Dev nD) : iprop(StableHlo.held (c : Thread nD τ) (Pipeline.ucRefs τ sig) (V0 m c) ∗ R0 m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk m c ∗ ∃ Wd, owes (c : Thread nD τ) (0 + owedAt c 0) Wd)
  rw [StableHlo.held_sub_split (c : Thread nD τ) arrays_sub, zero_add]
  unfold R0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) (Pipeline.ucRefs τ sig) (V1 m c) ∗ R1 c) := by
  show iprop(StableHlo.held (c.tc : Thread nD τ) (Pipeline.arrRefs (τ := τ) spec0) (V1 m c) ∗ (∃ r, prngReg c r)
    ∗ (StableHlo.held (c.tc : Thread nD τ) Sr (V1 m c) ∗ emp) ∗ Yk c ∗ ∃ Wd, owes (c : Thread nD τ) (0 : CellTallies nD τ sig ℕ) Wd) ⊢ _
  rw [StableHlo.held_sub_split (c : Thread nD τ) arrays_sub (V1 m c)]
  unfold R1
  iintro ⟨Ha, -, ⟨Hr, -⟩, HY, HO⟩
  isplitl [Ha Hr]
  · isplitl [Ha]; · iexact Ha
    iexact Hr
  isplitl [HY]; · iexact HY
  iexact HO

/-! ## The launch -/

theorem cells_disj : Disjoint (barCells : Finset (GSem nD τ sig)) ownCells := by
  rw [Finset.disjoint_left]
  rintro g h1 h2
  obtain ⟨c, -, rfl⟩ := Finset.mem_map.mp h1
  obtain ⟨x, -, h⟩ := Finset.mem_map.mp h2
  have := congrArg Prod.snd h
  cases this

def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's start is handed to device 0 until it is dealt. -/
def G (c : Dev nD) : sProp 𝕄 := if c = 0 then BI.own (ER (launchOf barCells ownCells allToks)) else BI.emp
theorem G_all : (bigSep Finset.univ G : sProp 𝕄) = BI.own (ER (launchOf barCells ownCells allToks)) := by
  have h0 : (G 0 : sProp 𝕄) = BI.own (ER (launchOf barCells ownCells allToks)) := if_pos rfl
  have h (c : Dev nD) (hc : c ∈ Finset.univ.erase (0 : Dev nD)) : (G c : sProp 𝕄) = BI.emp := if_neg (Finset.ne_of_mem_erase hc)
  rw [BI.bigSep_univ_at _ (0 : Dev nD), bigSep_congr h, BI.bigSep_emp_const, h0]
  exact BI.equiv_iff.mp sep_emp

/-- What every device may consult. -/
def known (K : GSem nD τ sig → ℕ) : sProp 𝕄 := iprop(invs (Og m) (Wg m) K ∗ bigSep barCells fun g => reached ER g 0)
instance known_persistent (K : GSem nD τ sig → ℕ) : BI.Persistent (known m K) := by unfold known; infer_instance

theorem known_bar (c : Dev nD) : (bigSep barCells fun g => reached ER g 0 : sProp 𝕄) ⊢ reached ER (barCell c) 0 :=
  bigSep_elim (Finset.mem_map_of_mem barEmb (Finset.mem_univ c))

/-- What a core holds at the launch beside the protocol's start. -/
def plain (c : Dev nD) : sProp 𝕄 :=
  iprop(StableHlo.held (c : Thread nD τ) (Pipeline.ucRefs τ sig) (Vin m c) ∗ due c ∗ owes (c : Thread nD τ) (owedAt c 0) ∅ ∗ ∃ r, prngReg c r)

abbrev T₀ (c : Dev nD) : sProp 𝕄 := iprop(StableHlo.held (c : Thread nD τ) (Pipeline.ucRefs τ sig) (Vin m c) ∗ R0 m c)
abbrev Tₙ (c : Dev nD) : sProp 𝕄 := iprop(StableHlo.held (c : Thread nD τ) (Pipeline.ucRefs τ sig) (V2 m c) ∗ semVal (barCell c) 0)

theorem T₀_of (K : GSem nD τ sig → ℕ) (c : Dev nD) : iprop(known m K ∗ (dealt c ∗ plain m c)) ⊢ T₀ m c := by
  unfold known plain T₀ R0 Tk
  iintro ⟨⟨#HI, #HR⟩, Hd, Hh, Hdue, HO, Hp⟩
  isplitl [Hh]; · iexact Hh
  isplitl [Hd Hdue]
  · isplitl [Hd]
    · iexists K
      isplitr; · iexact HI
      isplitr; · iapply (known_bar (F := F) (pr c)); iexact HR
      iexact Hd
    iexact Hdue
  isplitl [Hp]; · iexact Hp
  iexists ∅; iexact HO

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem each_core (c : Dev nD) : iprop(unscopedBufs c (fun b => m ((c : Thread nD τ).loc b)) ∗ unscopedSems0 c
      ∗ owes (c : Thread nD τ) (owedAt c 0) ∅ ∗ Pipeline.launchCred (fun d => owedAt d 0) c ∗ prngReg c (ρ c) ∗ G c)
    ⊢ (iprop(plain m c ∗ (semVal (barCell c) 0 ∗ G c)) : sProp 𝕄) := by
  rw [show unscopedBufs c (fun b => m ((c : Thread nD τ).loc b)) = StableHlo.held (c : Thread nD τ) (Pipeline.ucRefs τ sig) (Vin m c) from
      Pipeline.unscopedBufs_held c (Vin m c), unscopedSems_eq, launch_due]
  unfold plain due
  iintro ⟨Hh, Hus, HO, ⟨Hcs, Hc⟩, Hp, HG⟩
  isplitr [Hus HG]
  · isplitl [Hh]; · iexact Hh
    isplitl [Hcs Hc]
    · isplitl [Hc]; · iexact Hc
      iexact Hcs
    isplitl [HO]; · iexact HO
    iexists (ρ c); iexact Hp
  isplitl [Hus]; · iexact Hus
  iexact HG

theorem vals_map : bigSep Finset.univ (fun c : Dev nD => (semVal (barCell c) 0 : sProp 𝕄)) ⊢ bigSep barCells (fun g => (semVal g 0 : sProp 𝕄)) :=
  Entails.of_eq (BI.bigSep_map (s := Finset.univ) barEmb (Φ := fun g : GSem nD τ sig => (semVal g 0 : sProp 𝕄))).symm
theorem ats_map : bigSep barCells (fun g => (atPos ER g 0 ∅ 0 : sProp 𝕄)) ⊢ bigSep Finset.univ (fun c : Dev nD => (atPos ER (barCell c) 0 ∅ 0 : sProp 𝕄)) :=
  Entails.of_eq (BI.bigSep_map (s := Finset.univ) barEmb (Φ := fun g : GSem nD τ sig => (atPos ER g 0 ∅ 0 : sProp 𝕄)))
theorem opens_map : bigSep ownCells (fun g => (openTok ER g : sProp 𝕄)) ⊢ bigSep Finset.univ (fun c : Dev nD => (each c (fun g => openTok ER g) : sProp 𝕄)) :=
  Entails.of_eq (by
    rw [BI.bigSep_map, bigSep_univ_prod]
    exact bigSep_congr fun c _ => each_eq c fun g => (openTok ER g : sProp 𝕄))

theorem deal_one (c : Dev nD) : iprop((dutyTok ER (barCell (pr c)) 0 () ∗ toks c 0) ∗ (atPos ER (barCell c) 0 ∅ 0 ∗ each c (fun g => openTok ER g)))
    ⊢ (dealt c : sProp 𝕄) := by
  unfold dealt
  iintro ⟨⟨Hd, Ht⟩, Ha, Ho⟩
  isplitl [Hd Ha]
  · isplitl [Hd]; · iexact Hd
    iexact Ha
  isplitl [Ho]; · iexact Ho
  iexact Ht

/-- From the parts to what each device is dealt. -/
theorem deal : iprop((bigSep Finset.univ fun c : Dev nD => iprop(dutyTok ER (barCell (pr c)) 0 () ∗ toks c 0))
      ∗ bigSep Finset.univ (fun c : Dev nD => (atPos ER (barCell c) 0 ∅ 0 : sProp 𝕄))
      ∗ bigSep Finset.univ (fun c : Dev nD => (each c (fun g => openTok ER g) : sProp 𝕄))) ⊢ (bigSep Finset.univ fun c : Dev nD => dealt c : sProp 𝕄) := by
  rw [← BI.bigSep_sep', ← BI.bigSep_sep']
  refine BI.bigSep_mono fun c _ => ?_
  show iprop((dutyTok ER (barCell (pr c)) 0 () ∗ toks c 0) ∗ (atPos ER (barCell c) 0 ∅ 0 ∗ each c (fun g => openTok ER g))) ⊢ (dealt c : sProp 𝕄)
  exact deal_one c

theorem all_cores : (bigSep Finset.univ fun c : Dev nD => iprop(unscopedBufs c (fun b => m ((c : Thread nD τ).loc b)) ∗ unscopedSems0 c
      ∗ owes (c : Thread nD τ) (owedAt c 0) ∅ ∗ Pipeline.launchCred (fun d => owedAt d 0) c ∗ prngReg c (ρ c) ∗ G c))
    ⊢ (iprop(bigSep Finset.univ (fun c : Dev nD => plain m c) ∗ bigSep Finset.univ (fun c : Dev nD => semVal (barCell c) 0)
      ∗ bigSep Finset.univ G) : sProp 𝕄) := by
  rw [← BI.bigSep_sep', ← BI.bigSep_sep']
  exact BI.bigSep_mono fun c _ => each_core m ρ c

theorem both {X Y : Dev nD → sProp 𝕄} : iprop(bigSep Finset.univ X ∗ bigSep Finset.univ Y) ⊢ bigSep Finset.univ fun c => iprop(X c ∗ Y c) :=
  Entails.of_eq (BI.bigSep_sep' _ _ _).symm

theorem init : iprop((bigSep Finset.univ fun c : Dev nD => iprop(unscopedBufs c (fun b => m ((c : Thread nD τ).loc b)) ∗ unscopedSems0 c
      ∗ owes (c : Thread nD τ) (owedAt c 0) ∅ ∗ Pipeline.launchCred (fun d => owedAt d 0) c ∗ prngReg c (ρ c) ∗ G c)) ∗ levAts L lv)
    ⊢ (|={Set.univ}=> bigSep Finset.univ (T₀ m) : sProp 𝕄) := by
  iintro ⟨H, -⟩
  ihave H' := (all_cores m ρ) $$ H
  icases H' with ⟨HB, Hv, HG⟩
  ihave Hu := (Entails.of_eq (G_all (F := F))) $$ HG
  ihave Hv := (vals_map (F := F)) $$ Hv
  imod (Rounds.fund_launch ER (Rd (Og m) (Wg m)) cells_disj (fun g _ h => h) allToks) $$ [Hv Hu] with ⟨%κ, -, #Hinv, #Hr, Hat, Hopen, Htok⟩
  · isplitl [Hv]; · iexact Hv
    iexact Hu
  imodintro
  iapply (bigSep_with_persistent (R := known m κ) (Φ := fun c => iprop(dealt c ∗ plain m c)) fun c _ => T₀_of m κ c)
  isplitr
  · unfold known invs
    isplitr; · iexact Hinv
    iexact Hr
  iapply (both (F := F))
  isplitr [HB]
  · iapply (deal (F := F))
    isplitl [Htok]; · iapply (tokens (F := F)); iexact Htok
    isplitl [Hat]; · iapply (ats_map (F := F)); iexact Hat
    iapply (opens_map (F := F)); iexact Hopen
  · iexact HB

/-! ## What the end holds -/

theorem V2_keep (c : Dev nD) (b : Ref sig .tc) (h : b ≠ main_v3) : V2 m c (Proc.devRef .tc b) = V1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))
theorem V2_arg0 (c : Dev nD) : V2 m c (Proc.devRef .tc main_arg0) = m ((c : Thread nD τ).loc main_arg0) :=
  (V2_keep m c main_arg0 (by decide)).trans ((V1_rest m c main_arg0 (by decide)).trans (V_main_arg0 m c))
theorem V2_arg1 (c : Dev nD) : V2 m c (Proc.devRef .tc main_arg1) = m ((c : Thread nD τ).loc main_arg1) :=
  (V2_keep m c main_arg1 (by decide)).trans ((V1_arr m c 1).trans (((dat m c).arrAt_in 1 rfl _).trans (V_main_arg1 m c)))

theorem held_eq (c : Dev nD) (W : Valuation τ sig (Elt F)) : (StableHlo.held (c : Thread nD τ) (Pipeline.ucRefs τ sig) W : sProp 𝕄)
    = iprop((((c, Proc.devRef .tc main_arg0) : Loc nD τ sig) ↦{fullShare} W (Proc.devRef .tc main_arg0))
      ∗ (((c, Proc.devRef .tc main_arg1) : Loc nD τ sig) ↦{fullShare} W (Proc.devRef .tc main_arg1))
      ∗ (((c, Proc.devRef .tc main_v3) : Loc nD τ sig) ↦{fullShare} W (Proc.devRef .tc main_v3))
      ∗ (((c, Proc.devRef .tc main_v1) : Loc nD τ sig) ↦{fullShare} W (Proc.devRef .tc main_v1))
      ∗ (((c, Proc.devRef .tc main_v2) : Loc nD τ sig) ↦{fullShare} W (Proc.devRef .tc main_v2))) := by
  unfold StableHlo.held
  rw [bigSep_eq_bigSepL_of_eq [Proc.devRef .tc main_arg0, Proc.devRef .tc main_arg1, Proc.devRef .tc main_v3, Proc.devRef .tc main_v1,
    Proc.devRef .tc main_v2] (by decide) (by decide)]
  rfl

theorem unscoped_eq : ∀ sm : SemLoc sig, sm.isScoped .tc = false → sm = .reg barrier0 := by decide

set_option backward.isDefEq.respectTransparency.types false in
/-- The run: the two arguments unchanged, the result as the last host operation leaves it, every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = V2 m c (Proc.devRef .tc main_v3)) ∧ r.2.sem = fun _ => 0) :=
  Pipeline.θ_run_regions_kit_sems (pcfgs (F := F)) adm (pdats m) (0 : ℕ) cellOf_inj EP defs₀ 𝒱₀ L lv m ρ main (segs m)
    (fun c Q => by rw [main_segs (F := F) adm (pdats m) (0 : ℕ) 𝒱₀ L lv (host0 m) (host1 m) (reg0 m) rfl rfl c]; rfl)
    (by simp only [segs, Pipeline.Seg.pipes_host, Pipeline.Seg.pipes_region, Pipeline.Seg.pipes_nil]; decide)
    (O₀ := fun c => owedAt c 0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => reg0_post m c, fun c => ?_⟩
      show iprop(StableHlo.held (c : Thread nD τ) (Pipeline.ucRefs τ sig) (V2 m c)
          ∗ (semVal (barCell c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb0, HO⟩
      isplitr [HO]
      · isplitl [Hh] <;> iassumption
      · iexact HO)
    (hinit := init m ρ)
    (QY := fun c s => (s.mem ((c : Thread nD τ).loc main_arg0) = V2 m c (Proc.devRef .tc main_arg0)
      ∧ s.mem ((c : Thread nD τ).loc main_arg1) = V2 m c (Proc.devRef .tc main_arg1)
      ∧ s.mem ((c : Thread nD τ).loc main_v3) = V2 m c (Proc.devRef .tc main_v3)) ∧ s.sem (barCell c) = 0)
    (hfin := fun c s' => by
      dsimp only [Tₙ]; rw [held_eq]
      iintro ⟨⟨⟨H0, H1, H3, -⟩, Hb0⟩, HSI⟩
      icombine HSI H0 gives %h0
      icombine HSI H1 gives %h1
      icombine HSI H3 gives %h3
      icombine HSI Hb0 gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        rw [V2_arg0] at h0; rw [V2_arg1] at h1
        exact ⟨h0, h1, h3⟩,
      sem_eq_zero hs fun c sm hsm => by
        obtain rfl := unscoped_eq sm hsm
        exact (h c).2⟩)

end Cert.KernelIdeal.Own

end
-- ==== Proof.Product.lean ====
/-
  The kernel's blocks over the reals, entry by entry: a tile product is a sum of products, and a chunk of the result is the
  sum of two such sums, one over what each device of a pair holds.
-/
module

public import proofs.«01_k».proof.Proof.Run
public import Idealize.ShloMosaic.Lib.MatmulPlain
public import Idealize.ShloMosaic.Lib.ValueIdx
public import Idealize.ShloMosaic.Lib.ValueLayout
public import Idealize.ShloMosaic.Lib.StackMember
public import Idealize.ShloMosaic.Lib.Pipeline.ValueKit

@[expose] public section

noncomputable section

namespace Cert.KernelIdeal.Own

open Idealize.ShloMosaic hiding ix2 ix3 ix4
open Idealize.ShloMosaic.TcCoe Idealize.ShloMosaic.ValueIdx
open Cert.KernelIdeal.Gen Cert.KernelIdeal.Slots
open scoped BigOperators

/-- Row `1024 h + r` of `O` times column `n` of `w`. -/
def dotRow (O : Vec Ideal S2048x4096 .bf16) (w : Vec Ideal S4096x256 .bf16) (h : Fin 2) (r : Fin 1024) (n : Fin 256) : Ideal .f32 :=
  ∑ k : Fin 4096, O (ix2 ⟨1024 * h.val + r.val, by omega⟩ k) * w (ix2 k n)

theorem pay4_apply (o : Vec Ideal S512x4096 .bf16) (w : Vec Ideal S4096x256 .bf16) (r : Fin 512) (n : Fin 256) :
    k0_pay4 o w (ix3 (0 : Fin 1) r n) = ∑ k : Fin 4096, o (ix2 r k) * w (ix2 k n) := by
  unfold k0_pay4
  refine (shapeCast_ab_1ab_apply _ _ _ _ _).trans ?_
  rw [shapeCast_self]
  refine (Ideal.matmul_plain_apply (φ₁ := .bf16) (φ₂ := .bf16) none o w _ r n).trans ?_
  rw [constant_apply, Ideal.ofBits_zero_f32, zero_add]

theorem pay9_apply (a b : Vec Ideal S1x512x256 .bf16) (r : Fin 512) (n : Fin 256) :
    (k0_pay9 a b (ix2 r n) : Ideal .f32) = a (ix3 (0 : Fin 1) r n) + b (ix3 (0 : Fin 1) r n) :=
  congrArg₂ (fun x y : Ideal .f32 => x + y) (shapeCast_1ab_ab_apply a _ r n) (shapeCast_1ab_ab_apply b _ r n)

theorem rowTile_apply (O : Vec Ideal S2048x4096 .bf16) (h b : Fin 2) (r : Fin 512) (k : Fin 4096) :
    rowTile O h b (ix2 r k) = O (ix2 ⟨1024 * h.val + 512 * b.val + r.val, by omega⟩ k) := by
  refine congrArg O (funext fun a => Fin.ext ?_)
  match a with
  | ⟨0, _⟩ => show 1024 * h.val + 512 * b.val + 1 * r.val = 1024 * h.val + 512 * b.val + r.val; omega
  | ⟨1, _⟩ => show 0 + 1 * k.val = k.val; omega

/-- Row `a` of tile `b`, as a row of the chunk. -/
def tileRow (b : Fin 2) (a : Fin 512) : Fin 1024 := ⟨512 * b.val + a.val, by omega⟩
theorem eq_tileRow (r : Fin 1024) : ∃ b a, r = tileRow b a :=
  ⟨⟨r.val / 512, by omega⟩, ⟨r.val % 512, by omega⟩, Fin.ext (by show r.val = 512 * (r.val / 512) + r.val % 512; omega)⟩

/-- An entry of two tiles laid one over the other, by the tile it is in. -/
theorem two₂_window {α : Type} (a b : S512x256.Idx → α) (r : Fin 512) (n : Fin 256) :
    two₂ a b (ix2 (tileRow 0 r) n) = a (ix2 r n) ∧ two₂ a b (ix2 (tileRow 1 r) n) = b (ix2 r n) := by
  have i0 : ∀ d, (![0, 0] : Fin 2 → ℕ) d + S512x256.size d ≤ S1024x256.size d := by decide
  have i1 : ∀ d, (![512, 0] : Fin 2 → ℕ) d + S512x256.size d ≤ S1024x256.size d := by decide
  have h0 : VecWindow.window (two₂ a b) ![0, 0] S512x256.size i0 = a := by
    unfold two₂
    rw [VecWindow.window_put_of_disjoint _ _ _ _ _ _ _ 0 (Or.inl (by decide))]
    exact VecWindow.window_put_same _ _ _ _ _
  have h1 : VecWindow.window (two₂ a b) ![512, 0] S512x256.size i1 = b := VecWindow.window_put_same _ _ _ _ _
  refine ⟨Eq.trans (congrArg (two₂ a b) (funext fun d => Fin.ext ?_)) (congrFun h0 (ix2 r n)),
    Eq.trans (congrArg (two₂ a b) (funext fun d => Fin.ext ?_)) (congrFun h1 (ix2 r n))⟩
  · match d with
    | ⟨0, _⟩ => show 512 * 0 + r.val = 0 + 1 * r.val; omega
    | ⟨1, _⟩ => show n.val = 0 + 1 * n.val; omega
  · match d with
    | ⟨0, _⟩ => show 512 * 1 + r.val = 512 + 1 * r.val; omega
    | ⟨1, _⟩ => show n.val = 0 + 1 * n.val; omega

theorem half_pr_pr (c : Dev nD) : half (pr (pr c)) = half c := by rw [pr_pr]

variable (Og : Dev nD → Vec Ideal S2048x4096 .bf16) (Wg : Dev nD → ℕ → Vec Ideal S4096x256 .bf16)

theorem pay4_row (O : Vec Ideal S2048x4096 .bf16) (w : Vec Ideal S4096x256 .bf16) (h b : Fin 2) (r : Fin 512) (n : Fin 256) :
    k0_pay4 (rowTile O h b) w (ix3 (0 : Fin 1) r n) = dotRow O w h (tileRow b r) n := by
  rw [pay4_apply]
  unfold dotRow
  refine Finset.sum_congr rfl fun k _ => ?_
  rw [rowTile_apply]
  exact congrArg (fun i => O (ix2 i k) * w (ix2 k n)) (Fin.ext (Nat.add_assoc _ _ _))

/-- A chunk of the result: what the two devices of a pair compute for these rows, added. -/
theorem outV_apply (c : Dev nD) (j : ℕ) (r : Fin 1024) (n : Fin 256) :
    outV Og Wg c j (ix2 r n) = dotRow (Og c) (Wg c j) (half c) r n + dotRow (Og (pr c)) (Wg (pr c) j) (half c) r n := by
  have e (a : Fin 512) (b : Fin 2) : k0_pay9 (k0_pay4 (rowTile (Og c) (half c) b) (Wg c j)) (k0_pay4 (rowTile (Og (pr c)) (half c) b) (Wg (pr c) j)) (ix2 a n)
      = dotRow (Og c) (Wg c j) (half c) (tileRow b a) n + dotRow (Og (pr c)) (Wg (pr c) j) (half c) (tileRow b a) n := by
    rw [pay9_apply, pay4_row, pay4_row]
  unfold outV kept sent prod
  rw [tile_two_0, tile_two_0, tile_two_1, tile_two_1, half_pr_pr]
  obtain ⟨b, a, rfl⟩ := eq_tileRow r
  match b with
  | 0 => exact ((two₂_window _ _ a n).1).trans (e a 0)
  | 1 => exact ((two₂_window _ _ a n).2).trans (e a 1)

end Cert.KernelIdeal.Own

end
-- ==== Proof.Array.lean ====
/-
  The kernel's arrays entry by entry: the blocks it reads as entries of the arguments, the region's array from the chunks
  each point leaves, and the result.
-/
module

public import proofs.«01_k».proof.Proof.Product

@[expose] public section

noncomputable section

namespace Cert.KernelIdeal.Own

open Idealize.ShloMosaic hiding ix2 ix3 ix4
open Idealize.ShloMosaic.TcCoe Idealize.ShloMosaic.ValueIdx
open Idealize.ShloMosaic.Pipeline (Dat)
open Cert.KernelIdeal.Gen Cert.KernelIdeal.Slots
open scoped BigOperators

variable (m : (ℓ : Loc nD τ sig) → Buf (Elt Ideal) ℓ)

theorem index0 (t : Fin cfg0.N) : win0_0.index t = ![0, 0] := (by decide +kernel : ∀ t : Fin grid0.N, win0_0.index t = ![0, 0]) t
theorem index1 (t : Fin cfg0.N) : win0_1.index t = ![0, min t.val 31] :=
  (by decide +kernel : ∀ t : Fin grid0.N, win0_1.index t = ![0, min t.val 31]) t
theorem index2 (t : Fin cfg0.N) : win0_2.index t = ![0, t.val - 1] :=
  (by decide +kernel : ∀ t : Fin grid0.N, win0_2.index t = ![0, t.val - 1]) t

/-! ## The operands -/

/-- The first operand before the region: the argument's last two axes merged. -/
theorem V_v1 (c : Dev nD) : V m c main_v1
    = shapeCast S2048x4096 (m ((c : Thread nD τ).loc main_arg0)) shapeCasts_S1x2048x32x128_S2048x4096 := by
  show StableHlo.after (List.flatten [hostOps0]) (fun b => m (c, b)) (Proc.devRef .tc main_v1) = _
  simp only [List.flatten_cons, List.flatten_nil, List.append_nil]
  unfold hostOps0
  after_results <;> rfl

theorem Og_apply (c : Dev nD) (r : Fin 2048) (a : Fin 32) (b : Fin 128) :
    Og m c (ix2 r ⟨128 * a.val + b.val, by omega⟩) = m ((c : Thread nD τ).loc main_arg0) (ix4 (0 : Fin 1) r a b) := by
  have h : Og m c (ix2 r ⟨128 * a.val + b.val, by omega⟩) = V m c main_v1 (ix2 r ⟨128 * a.val + b.val, by omega⟩) := by
    refine congrArg (V m c main_v1) (funext fun d => Fin.ext ?_)
    match d with
    | ⟨0, _⟩ =>
      show win0_0.index ⟨0, by decide⟩ 0 * 2048 + 1 * r.val = r.val
      rw [index0]; show 0 * 2048 + 1 * r.val = r.val; omega
    | ⟨1, _⟩ =>
      show win0_0.index ⟨0, by decide⟩ 1 * 4096 + 1 * (128 * a.val + b.val) = 128 * a.val + b.val
      rw [index0]; show 0 * 4096 + 1 * (128 * a.val + b.val) = 128 * a.val + b.val; omega
  rw [h, V_v1]
  refine shapeCast_apply _ _ _ _ ?_
  refine (Shape.rowMajor_val_four (d := ![1, 2048, 32, 128]) (ix4 (0 : Fin 1) r a b)).trans (Eq.trans ?_ (Shape.rowMajor_val_two (d := ![2048, 4096]) _).symm)
  show ((0 * 2048 + r.val) * 32 + a.val) * 128 + b.val = r.val * 4096 + (128 * a.val + b.val)
  omega

theorem Wg_apply (c : Dev nD) (j : Fin 32) (k : Fin 4096) (n : Fin 256) :
    Wg m c j.val (ix2 k n) = m ((c : Thread nD τ).loc main_arg1) (ix2 k ⟨256 * j.val + n.val, by omega⟩) := by
  refine Eq.trans (congrArg (V m c main_arg1) (funext fun d => Fin.ext ?_)) (congrFun (V_main_arg1 m c) _)
  have hj : j.val % 33 = j.val := Nat.mod_eq_of_lt (by omega)
  match d with
  | ⟨0, _⟩ =>
    show win0_1.index ⟨j.val % 33, _⟩ 0 * 4096 + 1 * k.val = k.val
    rw [index1]; show 0 * 4096 + 1 * k.val = k.val; omega
  | ⟨1, _⟩ =>
    show win0_1.index ⟨j.val % 33, _⟩ 1 * 256 + 1 * n.val = 256 * j.val + n.val
    rw [index1]; show min (j.val % 33) 31 * 256 + 1 * n.val = 256 * j.val + n.val
    rw [hj]; omega

/-! ## The result -/

/-- The region's array: chunk `n / 256` of the columns. -/
def arrV (c : Dev nD) : S1024x8192.Idx → Ideal .f32 :=
  fun i => outV (Og m) (Wg m) c ((i 1).val / 256) (ix2 (i 0) ⟨(i 1).val % 256, Nat.mod_lt _ (by decide)⟩)

theorem arr2 (c : Dev nD) : (dat m c).arrAt 2 cfg0.N = arrV m c := by
  refine (dat m c).arrAt_eq_of_covers 2 _ (by decide +kernel) fun t hf y => ?_
  have h0 : 0 < t.val := by
    rcases Nat.eq_zero_or_pos t.val with h | h
    · exact absurd (hf.symm.trans (idle2_zero t h).2) (by decide)
    · exact h
  blk_simp
  rw [after2]
  unfold arrV
  have ht : t.val < 33 := t.isLt.trans_le N_0.le
  have hy : (y 1).val < 256 := (y 1).isLt
  have e0 : (((win0_2.blk t).view.emb y) 0).val = (y 0).val := by
    show win0_2.index t 0 * 1024 + 1 * (y 0).val = (y 0).val
    rw [index2]; show 0 * 1024 + 1 * (y 0).val = (y 0).val; omega
  have e1 : (((win0_2.blk t).view.emb y) 1).val = 256 * (t.val - 1) + (y 1).val := by
    show win0_2.index t 1 * 256 + 1 * (y 1).val = _
    rw [index2]; show (t.val - 1) * 256 + 1 * (y 1).val = _; omega
  have ej : (((win0_2.blk t).view.emb y) 1).val / 256 = t.val - 1 := by rw [e1]; omega
  refine Eq.trans ?_ (congrArg (fun j => outV (Og m) (Wg m) c j _) ej.symm)
  refine congrArg (outV (Og m) (Wg m) c (t.val - 1)) (funext fun d => Fin.ext ?_)
  match d with
  | ⟨0, _⟩ => exact e0.symm
  | ⟨1, _⟩ => show (y 1).val = (((win0_2.blk t).view.emb y) 1).val % 256; rw [e1]; omega

theorem V2_v3 (c : Dev nD) (r : Fin 1024) (n : Fin 8192) : V2 m c (Proc.devRef .tc main_v3) (ix3 (0 : Fin 1) r n)
    = outV (Og m) (Wg m) c (n.val / 256) (ix2 r ⟨n.val % 256, Nat.mod_lt _ (by decide)⟩) := by
  have h : V2 m c (Proc.devRef .tc main_v3) = shapeCast S1x1024x8192 (V1 m c (Proc.devRef .tc main_v2)) shapeCasts_S1024x8192_S1x1024x8192 := by
    unfold V2 hostOps1
    after_results <;> rfl
  rw [h]
  refine (shapeCast_ab_1ab_apply _ _ _ _ _).trans ?_
  rw [show V1 m c (Proc.devRef .tc main_v2) = arrV m c from (V1_arr m c 2).trans (arr2 m c)]
  rfl

end Cert.KernelIdeal.Own

end
-- ==== Proof.Reference.lean ====
/-
  What the reference computes: row by column of the attention output, its last two axes merged, and the weights.
-/
module

public import proofs.«01_k».proof.Proof.Array
public import proofs.«01_k».proof.Proof.Gen.ReferenceIdeal.Run

@[expose] public section

noncomputable section

namespace Cert.KernelIdeal.Own

open Idealize.ShloMosaic hiding ix2 ix3 ix4
open Idealize.ShloMosaic.TcCoe Idealize.ShloMosaic.ValueIdx
open scoped BigOperators

/-- The contents of the two whole arguments. -/
abbrev WholeO : Type := FVec Ideal ⟨4, ![1, 2048, 64, 128]⟩ .bf16
abbrev WholeW : Type := FVec Ideal ⟨2, ![8192, 8192]⟩ .bf16

/-- The product that position `k` of the contracted axis adds to entry `(r, n)`. -/
def term (A : WholeO) (B : WholeW) (r : Fin 2048) (n k : Fin 8192) : Ideal .f32 :=
  A (ix4 (0 : Fin 1) r ⟨k.val / 128, by omega⟩ ⟨k.val % 128, by omega⟩) * B (ix2 k n)

/-- The dimensions of the reference's product: both operands contracted over 8192, the left one's last axis with the right
    one's first. -/
abbrev refDims := Cert.ReferenceIdeal.dot_S1x2048x8192_S8192x8192_S1x2048x8192_2_0_01_1_n_n

/-- The reference's result. -/
def whole (A : WholeO) (B : WholeW) : FVec Ideal ⟨3, ![1, 2048, 8192]⟩ .f32 :=
  Host.dotGeneral refDims none
    (shapeCast _ (extf .f32 A Cert.ReferenceIdeal.Facts₀.bitsLt_bf16_f32) Cert.ReferenceIdeal.Facts₀.shapeCasts_S1x2048x64x128_S1x2048x8192)
    (extf .f32 B Cert.ReferenceIdeal.Facts₀.bitsLt_bf16_f32)

/-- The attention output with its last two axes merged, at an index. -/
theorem merged_apply (A : WholeO) (h) (r : Fin 2048) (k : Fin 8192) :
    shapeCast ⟨3, ![1, 2048, 8192]⟩ (extf .f32 A Cert.ReferenceIdeal.Facts₀.bitsLt_bf16_f32) h (ix3 (0 : Fin 1) r k)
      = A (ix4 (0 : Fin 1) r ⟨k.val / 128, by omega⟩ ⟨k.val % 128, by omega⟩) := by
  refine shapeCast_apply _ _ _ (ix4 (0 : Fin 1) r ⟨k.val / 128, by omega⟩ ⟨k.val % 128, by omega⟩) ?_
  rw [Shape.rowMajor_val_four, Shape.rowMajor_val_three]
  show ((0 * 2048 + r.val) * 64 + k.val / 128) * 128 + k.val % 128 = (0 * 2048 + r.val) * 8192 + k.val
  omega

/-- The reference's result at an index: one sum over the whole contracted axis. -/
theorem whole_apply (A : WholeO) (B : WholeW) (r : Fin 2048) (n : Fin 8192) :
    (whole A B (ix3 (0 : Fin 1) r n) : Ideal .f32) = ∑ k : Fin 8192, term A B r n k := by
  unfold whole
  show FloatOps.dotGeneral _ none _ _ _ (ix3 (0 : Fin 1) r n) = _
  rw [Ideal.dotGeneral_apply,
    ← Equiv.sum_comp (contrEquiv1 refDims 8192 rfl rfl).symm]
  refine Finset.sum_congr rfl fun k _ => ?_
  have hk := contrEquiv1_symm_val refDims 8192 rfl rfl k
  have el : refDims.lhsIdx (ix3 (0 : Fin 1) r n)
      ((contrEquiv1 refDims 8192 rfl rfl).symm k) = ix3 (0 : Fin 1) r k := by
    funext a; apply Fin.ext
    match a with
    | ⟨0, _⟩ => rfl
    | ⟨1, _⟩ => rfl
    | ⟨2, _⟩ => exact hk
  have er : refDims.rhsIdx (ix3 (0 : Fin 1) r n)
      ((contrEquiv1 refDims 8192 rfl rfl).symm k) = ix2 k n := by
    funext a; apply Fin.ext
    match a with
    | ⟨0, _⟩ => exact hk
    | ⟨1, _⟩ => rfl
  rw [el, er]
  exact congrArg (fun x : Ideal .f32 => x * B (ix2 k n)) (merged_apply A _ r k)

end Cert.KernelIdeal.Own

end
-- ==== Proof.Equation.lean ====
/-
  The equation: row by column of the whole product is the sum of what the two devices of a pair compute, each over its own
  half of the contracted axis.
-/
module

public import proofs.«01_k».proof.Proof.Reference

@[expose] public section

noncomputable section

namespace Cert.KernelIdeal.Own

open Idealize.ShloMosaic hiding ix2 ix3 ix4
open Idealize.ShloMosaic.TcCoe Idealize.ShloMosaic.ValueIdx
open Cert.KernelIdeal.Gen Cert.KernelIdeal.Slots
open scoped BigOperators

/-! ## The devices' blocks -/

/-- Device `c`'s block coordinates in the two arguments and in the result: `z` on the axis that is cut. -/
abbrev atO (c : Dev nD) := Layout.meshBlock [2, 2, 2] ![[], [], [2], []] c
abbrev atW (c : Dev nD) := Layout.meshBlock [2, 2, 2] ![[2], []] c
abbrev atR (c : Dev nD) := Layout.meshBlock [2, 2, 2] ![[], [2], []] c

theorem atO_val (c : Dev nD) : (atO c 0).val = 0 ∧ (atO c 1).val = 0 ∧ (atO c 2).val = (half c).val ∧ (atO c 3).val = 0 := by
  revert c; decide
theorem atW_val (c : Dev nD) : (atW c 0).val = (half c).val ∧ (atW c 1).val = 0 := by
  revert c; decide
theorem atR_val (c : Dev nD) : (atR c 0).val = 0 ∧ (atR c 1).val = (half c).val ∧ (atR c 2).val = 0 := by
  revert c; decide

/-- A coordinate of the whole array, from the block's. -/
theorem along {x y s i : Nat} (h : x = y) : x * s + i = s * y + i := by rw [h, Nat.mul_comm]
theorem along_zero {x s i : Nat} (h : x = 0) : x * s + i = i := by rw [h, Nat.zero_mul, Nat.zero_add]

/-- Device `c`'s block of the attention output, at an index of the whole: 32 of the 64 heads. -/
theorem blockO_apply (A : WholeO) (c : Dev nD) (r : Fin 2048) (a : Fin 32) (b : Fin 128) :
    Layout.blockN ⟨4, ![1, 2048, 32, 128]⟩ ⟨4, ![1, 2048, 64, 128]⟩ (atO c) A (by decide) (ix4 (0 : Fin 1) r a b)
      = A (ix4 (0 : Fin 1) r ⟨32 * (half c).val + a.val, by omega⟩ b) := by
  obtain ⟨h0, h1, h2, h3⟩ := atO_val c
  refine congrArg A (funext fun d => Fin.ext ?_)
  match d with
  | ⟨0, _⟩ => exact along_zero (s := 1) (i := 0) h0
  | ⟨1, _⟩ => exact along_zero (s := 2048) (i := r.val) h1
  | ⟨2, _⟩ => exact along (s := 32) (i := a.val) h2
  | ⟨3, _⟩ => exact along_zero (s := 128) (i := b.val) h3

/-- Device `c`'s block of the weights, at an index of the whole: half of the rows. -/
theorem blockW_apply (B : WholeW) (c : Dev nD) (k : Fin 4096) (n : Fin 8192) :
    Layout.blockN ⟨2, ![4096, 8192]⟩ ⟨2, ![8192, 8192]⟩ (atW c) B (by decide) (ix2 k n)
      = B (ix2 ⟨4096 * (half c).val + k.val, by omega⟩ n) := by
  obtain ⟨h0, h1⟩ := atW_val c
  refine congrArg B (funext fun d => Fin.ext ?_)
  match d with
  | ⟨0, _⟩ => exact along (s := 4096) (i := k.val) h0
  | ⟨1, _⟩ => exact along_zero (s := 8192) (i := n.val) h1

/-- Device `c`'s block of the result, at an index of the whole: half of the rows. -/
theorem blockR_apply (X : FVec Ideal ⟨3, ![1, 2048, 8192]⟩ .f32) (c : Dev nD) (r : Fin 1024) (n : Fin 8192) :
    Layout.blockN ⟨3, ![1, 1024, 8192]⟩ ⟨3, ![1, 2048, 8192]⟩ (atR c) X (by decide) (ix3 (0 : Fin 1) r n)
      = X (ix3 (0 : Fin 1) ⟨1024 * (half c).val + r.val, by omega⟩ n) := by
  obtain ⟨h0, h1, h2⟩ := atR_val c
  refine congrArg X (funext fun d => Fin.ext ?_)
  match d with
  | ⟨0, _⟩ => exact along_zero (s := 1) (i := 0) h0
  | ⟨1, _⟩ => exact along (s := 1024) (i := r.val) h1
  | ⟨2, _⟩ => exact along_zero (s := 8192) (i := n.val) h2

/-! ## The equation -/

/-- A sum over the contracted axis, by halves in either order. -/
theorem sum_halves (c : Dev nD) (f : Fin 8192 → Ideal .f32) :
    (∑ k : Fin 4096, f ⟨4096 * (half c).val + k.val, by omega⟩) + (∑ k : Fin 4096, f ⟨4096 * (half (pr c)).val + k.val, by omega⟩)
      = ∑ k : Fin 8192, f k := by
  have hs : ∑ k : Fin 8192, f k = (∑ k : Fin 4096, f ⟨k.val, by omega⟩) + ∑ k : Fin 4096, f ⟨4096 + k.val, by omega⟩ :=
    Fin.sum_univ_add (a := 4096) (b := 4096) f
  have e0 (d : Dev nD) (h : (half d).val = 0) : (∑ k : Fin 4096, f ⟨4096 * (half d).val + k.val, by omega⟩) = ∑ k : Fin 4096, f ⟨k.val, by omega⟩ :=
    Finset.sum_congr rfl fun k _ => congrArg f (Fin.ext (by show 4096 * (half d).val + k.val = k.val; rw [h]; omega))
  have e1 (d : Dev nD) (h : (half d).val = 1) : (∑ k : Fin 4096, f ⟨4096 * (half d).val + k.val, by omega⟩) = ∑ k : Fin 4096, f ⟨4096 + k.val, by omega⟩ :=
    Finset.sum_congr rfl fun k _ => congrArg f (Fin.ext (by show 4096 * (half d).val + k.val = 4096 + k.val; rw [h]))
  have hp := half_pr c
  have hc : (half c).val = c.val % 2 := rfl
  rcases Nat.lt_or_ge (half c).val 1 with h | h
  · rw [e0 c (by omega), e1 (pr c) (by omega), hs]
  · rw [e1 c (by omega), e0 (pr c) (by omega), hs, add_comm]

section

variable (m : (ℓ : Loc nD τ sig) → Buf (Elt Ideal) ℓ) (A : WholeO) (B : WholeW)
  (hA : ∀ c : Dev nD, m ((c : Thread nD τ).loc main_arg0)
    = Layout.blockN ⟨4, ![1, 2048, 32, 128]⟩ ⟨4, ![1, 2048, 64, 128]⟩ (atO c) A (by decide))
  (hB : ∀ c : Dev nD, m ((c : Thread nD τ).loc main_arg1)
    = Layout.blockN ⟨2, ![4096, 8192]⟩ ⟨2, ![8192, 8192]⟩ (atW c) B (by decide))

include hA in
/-- The kernel's left operand, at an index of the whole. -/
theorem Og_whole (c : Dev nD) (r : Fin 2048) (k : Fin 4096) :
    Og m c (ix2 r k) = A (ix4 (0 : Fin 1) r ⟨(4096 * (half c).val + k.val) / 128, by omega⟩ ⟨(4096 * (half c).val + k.val) % 128, by omega⟩) := by
  have hk : k = ⟨128 * (k.val / 128) + k.val % 128, by omega⟩ := Fin.ext (by show k.val = 128 * (k.val / 128) + k.val % 128; omega)
  refine (congrArg (fun i => Og m c (ix2 r i)) hk).trans ((Og_apply m c r ⟨k.val / 128, by omega⟩ ⟨k.val % 128, by omega⟩).trans ?_)
  rw [hA c]
  refine (blockO_apply A c r ⟨k.val / 128, by omega⟩ ⟨k.val % 128, by omega⟩).trans ?_
  exact congrArg₂ (fun a b => A (ix4 (0 : Fin 1) r a b)) (Fin.ext (by show 32 * (half c).val + k.val / 128 = (4096 * (half c).val + k.val) / 128; omega))
    (Fin.ext (by show k.val % 128 = (4096 * (half c).val + k.val) % 128; omega))

include hB in
/-- The weights' chunk `j`, at an index of the whole. -/
theorem Wg_whole (c : Dev nD) (j : Fin 32) (k : Fin 4096) (n : Fin 256) :
    Wg m c j.val (ix2 k n) = B (ix2 ⟨4096 * (half c).val + k.val, by omega⟩ ⟨256 * j.val + n.val, by omega⟩) := by
  rw [Wg_apply, hB c]
  exact blockW_apply B c k ⟨256 * j.val + n.val, by omega⟩

include hA hB in
/-- What one device computes: its half of the contracted axis. -/
theorem dotRow_whole (c : Dev nD) (h : Fin 2) (j : Fin 32) (r : Fin 1024) (n : Fin 256) :
    dotRow (Og m c) (Wg m c j.val) h r n
      = ∑ k : Fin 4096, term A B ⟨1024 * h.val + r.val, by omega⟩ ⟨256 * j.val + n.val, by omega⟩ ⟨4096 * (half c).val + k.val, by omega⟩ := by
  unfold dotRow
  refine Finset.sum_congr rfl fun k _ => ?_
  rw [Og_whole m A hA, Wg_whole m B hB]
  rfl

include hA hB in
/-- Device `c`'s result is its block of the reference's. -/
theorem result_eq (c : Dev nD) : V2 m c (Proc.devRef .tc main_v3)
    = Layout.blockN ⟨3, ![1, 1024, 8192]⟩ ⟨3, ![1, 2048, 8192]⟩ (atR c) (whole A B) (by decide) := by
  funext i
  obtain ⟨r, n, rfl⟩ : ∃ (r : Fin 1024) (n : Fin 8192), i = ix3 (0 : Fin 1) r n :=
    ⟨i 1, i 2, (ValueIdx.eq_ix3 i).trans (congrArg (fun u => ix3 u (i 1) (i 2)) (Fin.ext (by have h : (i 0).val < 1 := (i 0).isLt; show (i 0).val = 0; omega)))⟩
  refine (V2_v3 m c r n).trans (Eq.trans ?_ ((blockR_apply (whole A B) c r n).trans (whole_apply A B _ n)).symm)
  refine (outV_apply (Og m) (Wg m) c (n.val / 256) r _).trans ?_
  have e (d : Dev nD) := dotRow_whole m A B hA hB d (half c) ⟨n.val / 256, by omega⟩ r ⟨n.val % 256, Nat.mod_lt _ (by decide)⟩
  refine (congrArg₂ (fun x y : Ideal .f32 => x + y) (e c) (e (pr c))).trans ?_
  have hn : (⟨256 * (n.val / 256) + n.val % 256, by omega⟩ : Fin 8192) = n := Fin.ext (Nat.div_add_mod _ _)
  refine (sum_halves c (term A B ⟨1024 * (half c).val + r.val, by omega⟩ ⟨256 * (n.val / 256) + n.val % 256, by omega⟩)).trans ?_
  rw [hn]

end

end Cert.KernelIdeal.Own

end
-- ==== Proof.lean ====
/-
  The claims about the kernel, the kernel over the reals, and the reference, put together: the frames come from one run
  stated over any float values, and the value claim is that run over the reals against the reference's.
-/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The two printings of the kernel have the same text: body table, and main's program. -/
theorem bodies_same : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))
theorem defs_same : Cert.Kernel.defs (F := Bits) = Cert.KernelIdeal.defs (F := Bits) :=
  congrArg (Pipeline.defs (Cert.KernelIdeal.pcfgs (F := Bits))) bodies_same

theorem frame_kernel : Cert.quiescent_Kernel := fun m ρ _ =>
  Eq.mpr (congrArg (fun d => θ_run d (onTc (τ := Cert.KernelIdeal.τ) (Cert.KernelIdeal.main (F := Bits))) (s₀ m ρ) _) defs_same)
    ((θ_run Cert.KernelIdeal.defs _ _).mono (fun _ h => ⟨fun c => ⟨(h.1 c).1, (h.1 c).2.1⟩, h.2⟩) (Cert.KernelIdeal.Own.run_main (F := Bits) m ρ))

theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Own.run_main (F := Ideal) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device's result is its block of the reference's. -/
theorem results_agree : Cert.algebraic_KernelIdeal_ReferenceIdeal := fun m g m' g' _ args =>
  ⟨Cert.KernelIdeal.Own.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.KernelIdeal.Own.result_eq m
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) (fun d => (args d).1) (fun d => (args d).2) c), (h.1 c).1, (h.1 c).2.1⟩)
      (Cert.KernelIdeal.Own.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_kernelIdeal, frame_reference, trivial, results_agree⟩

end Cert.Proof

end
